-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_separated [hPre_separated : Cert.Pre_separated.Facts] (m : (ℓ : Loc Cert.KernelIdeal.nD Cert.KernelIdeal.τ Cert.KernelIdeal.sig) → Buf (Elt Ideal) ℓ) : Prop :=
  ∀ c : Dev Cert.KernelIdeal.nD,
    (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_separated [hPre_separated : Cert.Pre_separated.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_separated [hKernelIdeal : Cert.KernelIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_separated m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_separated [hReferenceIdeal : Cert.ReferenceIdeal.Facts] [hPre_separated : Cert.Pre_separated.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_separated m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_separated [hKernelIdeal : Cert.KernelIdeal.Facts] [hReferenceIdeal : Cert.ReferenceIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_separated m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v14)) (v1 : (c : Dev Cert.KernelIdeal.nD) → Buf (Elt Ideal) ((c.tc : Thread Cert.KernelIdeal.nD Cert.KernelIdeal.τ).loc Cert.KernelIdeal.main_v18)) (v2 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_v18) = v1 c
          ∧ r.2.mem ((c.tc : Thread Cert.KernelIdeal.nD Cert.KernelIdeal.τ).loc Cert.KernelIdeal.main_v22) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v145) = v0 c
          ∧ r.2.mem ((c.tc : Thread Cert.ReferenceIdeal.nD Cert.ReferenceIdeal.τ).loc Cert.ReferenceIdeal.main_v151) = v1 c
          ∧ r.2.mem ((c.tc : Thread Cert.ReferenceIdeal.nD Cert.ReferenceIdeal.τ).loc Cert.ReferenceIdeal.main_v192) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_separated : Cert.Pre_separated.Facts),
    quiescent_Kernel (hKernel := hKernel)
    ∧ quiescent_KernelIdeal (hKernelIdeal := hKernelIdeal)
    ∧ quiescent_KernelIdeal_pre_separated (hKernelIdeal := hKernelIdeal) (hPre_separated := hPre_separated)
    ∧ quiescent_ReferenceIdeal (hReferenceIdeal := hReferenceIdeal)
    ∧ quiescent_ReferenceIdeal_pre_separated (hReferenceIdeal := hReferenceIdeal) (hPre_separated := hPre_separated)
    ∧ preserves_Kernel_KernelIdeal
    ∧ algebraic_KernelIdeal_ReferenceIdeal_pre_separated (hKernelIdeal := hKernelIdeal) (hReferenceIdeal := hReferenceIdeal) (hPre_separated := hPre_separated)
-- ==== Pre_separated.lean ====
abbrev S4096x64 : Shape := ⟨2, ![4096, 64]⟩
abbrev S4096 : Shape := ⟨1, ![4096]⟩
abbrev S64x5000 : Shape := ⟨2, ![64, 5000]⟩
abbrev S1000 : Shape := ⟨1, ![1000]⟩
abbrev S1000x5 : Shape := ⟨2, ![1000, 5]⟩
abbrev S5000 : Shape := ⟨1, ![5000]⟩
abbrev S_ : Shape := ⟨0, ![]⟩
abbrev S4096x1 : Shape := ⟨2, ![4096, 1]⟩
abbrev S1x5000 : Shape := ⟨2, ![1, 5000]⟩
abbrev S4096x5000 : Shape := ⟨2, ![4096, 5000]⟩
abbrev S4096x501 : Shape := ⟨2, ![4096, 501]⟩
abbrev S4096x500 : Shape := ⟨2, ![4096, 500]⟩
abbrev S4096x500x1 : Shape := ⟨3, ![4096, 500, 1]⟩
abbrev S4096x500x2 : Shape := ⟨3, ![4096, 500, 2]⟩
abbrev S4096x1000x5 : Shape := ⟨3, ![4096, 1000, 5]⟩
abbrev S4096x1000 : Shape := ⟨2, ![4096, 1000]⟩
abbrev S1x1000 : Shape := ⟨2, ![1, 1000]⟩

class Facts : Prop where
  bcast_S1000_S1000x5_0 : S1000.BroadcastsInDim S1000x5 (![0] : Fin 1 → Fin S1000x5.rank)
  shapeCasts_S1000x5_S5000 : S1000x5.ShapeCasts S5000
  reducesTo_S4096x64_S4096_d1 : S4096x64.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x64_0_1 : S4096x1.BroadcastsInDim S4096x64 (![0, 1] : Fin 2 → Fin S4096x64.rank)
  reducesTo_S64x5000_S5000_d0 : S64x5000.ReducesTo [0] S5000
  bcast_S5000_S1x5000_1 : S5000.BroadcastsInDim S1x5000 (![1] : Fin 1 → Fin S1x5000.rank)
  bcast_S_S1x5000 : S_.BroadcastsInDim S1x5000 (![] : Fin 0 → Fin S1x5000.rank)
  bcast_S1x5000_S64x5000_0_1 : S1x5000.BroadcastsInDim S64x5000 (![0, 1] : Fin 2 → Fin S64x5000.rank)
  bcast_S4096x1_S4096x5000_0_1 : S4096x1.BroadcastsInDim S4096x5000 (![0, 1] : Fin 2 → Fin S4096x5000.rank)
  bcast_S1x5000_S4096x5000_0_1 : S1x5000.BroadcastsInDim S4096x5000 (![0, 1] : Fin 2 → Fin S4096x5000.rank)
  bcast_S_S4096x5000 : S_.BroadcastsInDim S4096x5000 (![] : Fin 0 → Fin S4096x5000.rank)
  sliceFits_S4096x5000_S4096x501 : S4096x5000.Slices (fun _ => 0) S4096x501
  slices_S4096x501_S4096x1_0_499 : S4096x501.Slices ![0, 499] S4096x1
  shapeCasts_S4096x1_S4096 : S4096x1.ShapeCasts S4096
  slices_S4096x501_S4096x1_0_500 : S4096x501.Slices ![0, 500] S4096x1
  sliceFits_S4096x5000_S4096x500 : S4096x5000.Slices (fun _ => 0) S4096x500
  bcast_S_S4096x500 : S_.BroadcastsInDim S4096x500 (![] : Fin 0 → Fin S4096x500.rank)
  bcast_S4096x1_S4096x500_0_1 : S4096x1.BroadcastsInDim S4096x500 (![0, 1] : Fin 2 → Fin S4096x500.rank)
  bcast_S4096x500_S4096x500x1_0_1 : S4096x500.BroadcastsInDim S4096x500x1 (![0, 1] : Fin 2 → Fin S4096x500x1.rank)
  concatenates_S4096x500x1_S4096x500x1_S4096x500x2_d2 : Shape.Concatenates [S4096x500x1, S4096x500x1] S4096x500x2 2
  shapeCasts_S4096x5000_S4096x1000x5 : S4096x5000.ShapeCasts S4096x1000x5
  reducesTo_S4096x1000x5_S4096x1000_d2 : S4096x1000x5.ReducesTo [2] S4096x1000
  bcast_S_S4096x1000 : S_.BroadcastsInDim S4096x1000 (![] : Fin 0 → Fin S4096x1000.rank)
  reducesTo_S4096x1000_S4096_d1 : S4096x1000.ReducesTo [1] S4096
  bcast_S4096x1_S4096x1000_0_1 : S4096x1.BroadcastsInDim S4096x1000 (![0, 1] : Fin 2 → Fin S4096x1000.rank)
  bcast_S1x1000_S4096x1000_0_1 : S1x1000.BroadcastsInDim S4096x1000 (![0, 1] : Fin 2 → Fin S4096x1000.rank)
  reducesTo_S4096x1000_S_d0_1 : S4096x1000.ReducesTo [0, 1] S_
  reducesTo_S4096x1_S_d0_1 : S4096x1.ReducesTo [0, 1] S_
  bcast_S_S4096 : S_.BroadcastsInDim S4096 (![] : Fin 0 → Fin S4096.rank)
  dot_S4096x64_S64x5000_S4096x5000_1_0_0_1_n_n_wf : DotDims.WF S4096x64 S64x5000 S4096x5000 [1] [0] [0] [1] [] []
  scatter_S4096x5000_S4096x500x2_S4096x500_n_01_01_2_wf : ScatterDims.WF S4096x5000 S4096x500x2 S4096x500 [] [0, 1] [0, 1] 2

variable [Facts]

def dot_S4096x64_S64x5000_S4096x5000_1_0_0_1_n_n : DotDims S4096x64 S64x5000 S4096x5000 where
  lhsContracting := [1]
  rhsContracting := [0]
  lhsNonContracting := [0]
  rhsNonContracting := [1]
  lhsBatch := []
  rhsBatch := []
  wf := dot_S4096x64_S64x5000_S4096x5000_1_0_0_1_n_n_wf
def scatter_S4096x5000_S4096x500x2_S4096x500_n_01_01_2 : ScatterDims S4096x5000 S4096x500x2 S4096x500 where
  updateWindowDims := []
  insertedWindowDims := [0, 1]
  scatterDimsToOperandDims := [0, 1]
  indexVectorDim := 2
  wf := scatter_S4096x5000_S4096x500x2_S4096x500_n_01_01_2_wf
def fn_clip {F : FTy → Type} [FloatOps F] (arg0 : FVec F S4096x1 .f32) (arg1 : FVec F S_ .f32) : FVec F S4096x1 .f32 :=
  let v0 : FVec F S_ .f32 := id arg1
  let v1 : FVec F S4096x1 .f32 := broadcastInDim S4096x1 ![] bcast_S_S4096x1 v0
  let v2 : FVec F S4096x1 .f32 := maximumf v1 arg0
  v2

def fn_clip_0 {F : FTy → Type} [FloatOps F] (arg0 : FVec F S1x5000 .f32) (arg1 : FVec F S_ .f32) : FVec F S1x5000 .f32 :=
  let v0 : FVec F S_ .f32 := id arg1
  let v1 : FVec F S1x5000 .f32 := broadcastInDim S1x5000 ![] bcast_S_S1x5000 v0
  let v2 : FVec F S1x5000 .f32 := maximumf v1 arg0
  v2

def fn_one_hot {F : FTy → Type} [FloatOps F] (arg0 : IVec S4096 32) : FVec F S4096x1000 .f32 :=
  let v0 : IVec S4096x1 32 := broadcastInDim S4096x1 ![0] bcast_S4096_S4096x1_0 arg0
  let v1 : IVec S1x1000 32 := iotaInDim S1x1000 32 1
  let v2 : IVec S4096x1000 32 := broadcastInDim S4096x1000 ![0, 1] bcast_S4096x1_S4096x1000_0_1 v0
  let v3 : IVec S4096x1000 32 := broadcastInDim S4096x1000 ![0, 1] bcast_S1x1000_S4096x1000_0_1 v1
  let v4 : IVec S4096x1000 1 := cmpi .eq v2 v3
  let v5 : FVec F S4096x1000 .f32 := uitofp .f32 v4
  v5

def fn_clip_1 {F : FTy → Type} [FloatOps F] (arg0 : FVec F S4096x1000 .f32) (arg1 : FVec F S_ .f32) (arg2 : FVec F S_ .f32) : FVec F S4096x1000 .f32 :=
  let v0 : FVec F S_ .f32 := id arg1
  let v1 : FVec F S4096x1000 .f32 := broadcastInDim S4096x1000 ![] bcast_S_S4096x1000 v0
  let v2 : FVec F S4096x1000 .f32 := maximumf v1 arg0
  let v3 : FVec F S_ .f32 := id arg2
  let v4 : FVec F S4096x1000 .f32 := broadcastInDim S4096x1000 ![] bcast_S_S4096x1000 v3
  let v5 : FVec F S4096x1000 .f32 := minimumf v4 v2
  v5

def fn_where {F : FTy → Type} [FloatOps F] (arg0 : IVec S4096x1000 1) (arg1 : FVec F S4096x1000 .f32) (arg2 : FVec F S4096x1000 .f32) : FVec F S4096x1000 .f32 :=
  let v0 : FVec F S4096x1000 .f32 := select arg0 arg1 arg2
  v0

def fn_part7 {F : FTy → Type} [FloatOps F] (main_v31 : FVec F S4096 .f32) (main_v96 : FVec F S4096x1 .f32) (main_v103 : FVec F S4096 .f32) (main_v117 : IVec S_ 1) (main_v122 : IVec S4096 1) (main_v123 : FVec F S4096 .f32) : IVec S4096 1 :=
  let main_v124 : IVec S4096 1 := cmpf .ogt main_v31 main_v123
  let main_v125 : IVec S4096 1 := andi main_v122 main_v124
  let main_cst_40 : FVec F S_ .f32 := constant S_ .f32 0x00000000#32
  let main_v126 : FVec F S4096 .f32 := broadcastInDim S4096 ![] bcast_S_S4096 main_cst_40
  let main_v127 : IVec S4096 1 := cmpf .oeq main_v103 main_v126
  let main_v128 : IVec S4096 1 := andi main_v125 main_v127
  let main_v129 : FVec F S4096 .f32 := shapeCast S4096 main_v96 shapeCasts_S4096x1_S4096
  let main_cst_41 : FVec F S_ .f32 := constant S_ .f32 0x00000000#32
  let main_v130 : FVec F S4096 .f32 := broadcastInDim S4096 ![] bcast_S_S4096 main_cst_41
  let main_v131 : IVec S4096 1 := cmpf .une main_v129 main_v130
  let main_v132 : IVec S4096 1 := andi main_v128 main_v131
  let main_v133 : IVec S4096 1 := broadcastInDim S4096 ![] bcast_S_S4096 main_v117
  let main_v134 : IVec S4096 1 := andi main_v132 main_v133
  main_v134

def fn_part6 {F : FTy → Type} [FloatOps F] (main_arg1 : IVec S4096 32) (main_v31 : FVec F S4096 .f32) (main_v96 : FVec F S4096x1 .f32) (main_v103 : FVec F S4096 .f32) (main_v105 : FVec F S4096x1000 .f32) (main_v107 : IVec S4096x1000 1) : IVec S4096 1 :=
  let main_v108 : FVec F S4096x1000 .f32 := uitofp .f32 main_v107
  let main_v109 : FVec F S4096x1000 .f32 := mulf main_v105 main_v108
  let main_cst_32 : FVec F S_ .f32 := constant S_ .f32 0x00000000#32
  let main_v110 : FVec F S_ .f32 := (fun x v => Host.reduceAdd x v reducesTo_S4096x1000_S_d0_1 h_S_) main_v109 main_cst_32
  let main_cst_33 : FVec F S_ .f32 := constant S_ .f32 0x00000000#32
  let main_v111 : FVec F S4096x1 .f32 := broadcastInDim S4096x1 ![] bcast_S_S4096x1 main_cst_33
  let main_v112 : IVec S4096x1 1 := cmpf .ogt main_v96 main_v111
  let main_v113 : FVec F S4096x1 .f32 := uitofp .f32 main_v112
  let main_cst_34 : FVec F S_ .f32 := constant S_ .f32 0x00000000#32
  let main_v114 : FVec F S_ .f32 := (fun x v => Host.reduceAdd x v reducesTo_S4096x1_S_d0_1 h_S_) main_v113 main_cst_34
  let main_cst_35 : FVec F S_ .f32 := constant S_ .f32 0x45800000#32
  let main_v115 : FVec F S_ .f32 := subf main_cst_35 main_v114
  let main_cst_36 : FVec F S_ .f32 := constant S_ .f32 0x4479C000#32
  let main_v116 : FVec F S_ .f32 := mulf main_cst_36 main_v115
  let main_v117 : IVec S_ 1 := cmpf .ole main_v110 main_v116
  let main_c_37 : IVec S_ 32 := constantI S_ 32 0#32
  let main_v118 : IVec S4096 32 := broadcastInDim S4096 ![] bcast_S_S4096 main_c_37
  let main_v119 : IVec S4096 1 := cmpi .sge main_arg1 main_v118
  let main_c_38 : IVec S_ 32 := constantI S_ 32 1000#32
  let main_v120 : IVec S4096 32 := broadcastInDim S4096 ![] bcast_S_S4096 main_c_38
  let main_v121 : IVec S4096 1 := cmpi .slt main_arg1 main_v120
  let main_v122 : IVec S4096 1 := andi main_v119 main_v121
  let main_cst_39 : FVec F S_ .f32 := constant S_ .f32 0x3456BF95#32
  let main_v123 : FVec F S4096 .f32 := broadcastInDim S4096 ![] bcast_S_S4096 main_cst_39
  fn_part7 (F := F) main_v31 main_v96 main_v103 main_v117 main_v122 main_v123

def fn_part5 {F : FTy → Type} [FloatOps F] (main_arg1 : IVec S4096 32) (main_v31 : FVec F S4096 .f32) (main_v68 : FVec F S4096x1000 .f32) (main_v69 : FVec F S4096x1000 .f32) (main_v87 : FVec F S4096x1000 .f32) (main_v89 : FVec F S4096x1000 .f32) : IVec S4096 1 :=
  let main_v90 : FVec F S4096x1000 .f32 := mulf main_v89 main_v68
  let main_v91 : FVec F S4096x1000 .f32 := addf main_v87 main_v90
  let main_cst_26 : FVec F S_ .f32 := constant S_ .f32 0x41700000#32
  let main_v92 : FVec F S4096x1000 .f32 := broadcastInDim S4096x1000 ![] bcast_S_S4096x1000 main_cst_26
  let main_v93 : FVec F S4096x1000 .f32 := mulf main_v91 main_v92
  let main_v94 : FVec F S4096x1000 .f32 := mulf main_v69 main_v93
  let main_cst_27 : FVec F S_ .f32 := constant S_ .f32 0x00000000#32
  let main_v95 : FVec F S4096 .f32 := (fun x v => Host.reduceAdd x v reducesTo_S4096x1000_S4096_d1 h_S_) main_v94 main_cst_27
  let main_v96 : FVec F S4096x1 .f32 := broadcastInDim S4096x1 ![0] bcast_S4096_S4096x1_0 main_v95
  let main_cst_28 : FVec F S_ .f32 := constant S_ .f32 0x3F800000#32
  let main_v97 : FVec F S4096x1000 .f32 := broadcastInDim S4096x1000 ![] bcast_S_S4096x1000 main_cst_28
  let main_v98 : FVec F S4096x1000 .f32 := subf main_v97 main_v69
  let main_v99 : FVec F S4096x1000 .f32 := broadcastInDim S4096x1000 ![0, 1] bcast_S4096x1_S4096x1000_0_1 main_v96
  let main_v100 : IVec S4096x1000 1 := cmpf .oeq main_v93 main_v99
  let main_v101 : FVec F S4096x1000 .f32 := uitofp .f32 main_v100
  let main_v102 : FVec F S4096x1000 .f32 := mulf main_v98 main_v101
  let main_cst_29 : FVec F S_ .f32 := constant S_ .f32 0x00000000#32
  let main_v103 : FVec F S4096 .f32 := (fun x v => Host.reduceAdd x v reducesTo_S4096x1000_S4096_d1 h_S_) main_v102 main_cst_29
  let main_cst_30 : FVec F S_ .f32 := constant S_ .f32 0x3F800000#32
  let main_v104 : FVec F S4096x1000 .f32 := broadcastInDim S4096x1000 ![] bcast_S_S4096x1000 main_cst_30
  let main_v105 : FVec F S4096x1000 .f32 := subf main_v104 main_v69
  let main_cst_31 : FVec F S_ .f32 := constant S_ .f32 0x00000000#32
  let main_v106 : FVec F S4096x1000 .f32 := broadcastInDim S4096x1000 ![] bcast_S_S4096x1000 main_cst_31
  let main_v107 : IVec S4096x1000 1 := cmpf .ogt main_v93 main_v106
  fn_part6 (F := F) main_arg1 main_v31 main_v96 main_v103 main_v105 main_v107

def fn_part4 {F : FTy → Type} [FloatOps F] (main_arg1 : IVec S4096 32) (main_v31 : FVec F S4096 .f32) (main_v68 : FVec F S4096x1000 .f32) (main_v69 : FVec F S4096x1000 .f32) (main_v72 : FVec F S4096x1000 .f32) (main_cst_18 : FVec F S_ .f32) : IVec S4096 1 :=
  let main_cst_19 : FVec F S_ .f32 := constant S_ .f32 0x3F800000#32
  let main_v73 : FVec F S4096x1000 .f32 := fn_clip_1 (F := F) main_v72 main_cst_18 main_cst_19
  let main_v74 : FVec F S4096x1000 .f32 := Host.sqrt main_v73
  let main_cst_20 : FVec F S_ .f32 := constant S_ .f32 0x3F7FFCB9#32
  let main_v75 : FVec F S4096x1000 .f32 := broadcastInDim S4096x1000 ![] bcast_S_S4096x1000 main_cst_20
  let main_v76 : FVec F S4096x1000 .f32 := mulf main_v68 main_v75
  let main_cst_21 : FVec F S_ .f32 := constant S_ .f32 0x3C23D657#32
  let main_v77 : FVec F S4096x1000 .f32 := broadcastInDim S4096x1000 ![] bcast_S_S4096x1000 main_cst_21
  let main_v78 : FVec F S4096x1000 .f32 := mulf main_v74 main_v77
  let main_v79 : FVec F S4096x1000 .f32 := subf main_v76 main_v78
  let main_cst_22 : FVec F S_ .f32 := constant S_ .f32 0xBF7FFCB9#32
  let main_v80 : FVec F S4096x1000 .f32 := broadcastInDim S4096x1000 ![] bcast_S_S4096x1000 main_cst_22
  let main_v81 : FVec F S4096x1000 .f32 := subf main_v68 main_v80
  let main_cst_23 : FVec F S_ .f32 := constant S_ .f32 0x00000000#32
  let main_v82 : FVec F S4096x1000 .f32 := broadcastInDim S4096x1000 ![] bcast_S_S4096x1000 main_cst_23
  let main_v83 : IVec S4096x1000 1 := cmpf .ogt main_v81 main_v82
  let main_cst_24 : FVec F S_ .f32 := constant S_ .f32 0x38D1B632#32
  let main_v84 : FVec F S4096x1000 .f32 := broadcastInDim S4096x1000 ![] bcast_S_S4096x1000 main_cst_24
  let main_v85 : FVec F S4096x1000 .f32 := subf main_v68 main_v84
  let main_v86 : FVec F S4096x1000 .f32 := fn_where (F := F) main_v83 main_v79 main_v85
  let main_v87 : FVec F S4096x1000 .f32 := mulf main_v69 main_v86
  let main_cst_25 : FVec F S_ .f32 := constant S_ .f32 0x3F800000#32
  let main_v88 : FVec F S4096x1000 .f32 := broadcastInDim S4096x1000 ![] bcast_S_S4096x1000 main_cst_25
  let main_v89 : FVec F S4096x1000 .f32 := subf main_v88 main_v69
  fn_part5 (F := F) main_arg1 main_v31 main_v68 main_v69 main_v87 main_v89

def fn_part3 {F : FTy → Type} [FloatOps F] (main_arg1 : IVec S4096 32) (main_v31 : FVec F S4096 .f32) (main_v53 : FVec F S4096x1000 .f32) (main_v54 : FVec F S4096x1000 .f32) : IVec S4096 1 :=
  let main_v55 : IVec S4096x1000 1 := cmpf .oeq main_v53 main_v54
  let main_v56 : FVec F S4096x1000 .f32 := uitofp .f32 main_v55
  let main_cst_13 : FVec F S_ .f32 := constant S_ .f32 0x3F800000#32
  let main_v57 : FVec F S4096x1000 .f32 := broadcastInDim S4096x1000 ![] bcast_S_S4096x1000 main_cst_13
  let main_v58 : FVec F S4096x1000 .f32 := subf main_v57 main_v56
  let main_cst_14 : FVec F S_ .f32 := constant S_ .f32 0x3F800000#32
  let main_v59 : FVec F S4096x1000 .f32 := broadcastInDim S4096x1000 ![] bcast_S_S4096x1000 main_cst_14
  let main_v60 : FVec F S4096x1000 .f32 := mulf main_v53 main_v59
  let main_v61 : FVec F S4096x1000 .f32 := Host.exp main_v60
  let main_v62 : FVec F S4096x1000 .f32 := mulf main_v61 main_v58
  let main_cst_15 : FVec F S_ .f32 := constant S_ .f32 0x00000000#32
  let main_v63 : FVec F S4096 .f32 := (fun x v => Host.reduceAdd x v reducesTo_S4096x1000_S4096_d1 h_S_) main_v62 main_cst_15
  let main_v64 : FVec F S4096x1 .f32 := broadcastInDim S4096x1 ![0] bcast_S4096_S4096x1_0 main_v63
  let main_cst_16 : FVec F S_ .f32 := constant S_ .f32 0x322BCC77#32
  let main_v65 : FVec F S4096x1 .f32 := broadcastInDim S4096x1 ![] bcast_S_S4096x1 main_cst_16
  let main_v66 : FVec F S4096x1 .f32 := addf main_v65 main_v64
  let main_v67 : FVec F S4096x1000 .f32 := broadcastInDim S4096x1000 ![0, 1] bcast_S4096x1_S4096x1000_0_1 main_v66
  let main_v68 : FVec F S4096x1000 .f32 := Host.divf main_v62 main_v67
  let main_v69 : FVec F S4096x1000 .f32 := fn_one_hot (F := F) main_arg1
  let main_v70 : FVec F S4096x1000 .f32 := mulf main_v68 main_v68
  let main_cst_17 : FVec F S_ .f32 := constant S_ .f32 0x3F800000#32
  let main_v71 : FVec F S4096x1000 .f32 := broadcastInDim S4096x1000 ![] bcast_S_S4096x1000 main_cst_17
  let main_v72 : FVec F S4096x1000 .f32 := subf main_v71 main_v70
  let main_cst_18 : FVec F S_ .f32 := constant S_ .f32 0x00000000#32
  fn_part4 (F := F) main_arg1 main_v31 main_v68 main_v69 main_v72 main_cst_18

def fn_part2 {F : FTy → Type} [FloatOps F] (main_arg1 : IVec S4096 32) (main_v17 : FVec F S4096x5000 .f32) (main_v31 : FVec F S4096 .f32) (main_indices_4 : IVec S4096x500 32) (main_v32 : FVec F S4096x5000 .f32) (main_v34 : IVec S4096x1 32) (main_v36 : IVec S4096x1 1) : IVec S4096 1 :=
  let main_c_7 : IVec S_ 32 := constantI S_ 32 4096#32
  let main_v37 : IVec S4096x1 32 := broadcastInDim S4096x1 ![] bcast_S_S4096x1 main_c_7
  let main_v38 : IVec S4096x1 32 := addi main_v34 main_v37
  let main_v39 : IVec S4096x1 32 := select main_v36 main_v38 main_v34
  let main_c_8 : IVec S_ 32 := constantI S_ 32 0#32
  let main_v40 : IVec S4096x500 32 := broadcastInDim S4096x500 ![] bcast_S_S4096x500 main_c_8
  let main_v41 : IVec S4096x500 1 := cmpi .slt main_indices_4 main_v40
  let main_c_9 : IVec S_ 32 := constantI S_ 32 5000#32
  let main_v42 : IVec S4096x500 32 := broadcastInDim S4096x500 ![] bcast_S_S4096x500 main_c_9
  let main_v43 : IVec S4096x500 32 := addi main_indices_4 main_v42
  let main_v44 : IVec S4096x500 32 := select main_v41 main_v43 main_indices_4
  let main_v45 : IVec S4096x500 32 := broadcastInDim S4096x500 ![0, 1] bcast_S4096x1_S4096x500_0_1 main_v39
  let main_v46 : IVec S4096x500x1 32 := broadcastInDim S4096x500x1 ![0, 1] bcast_S4096x500_S4096x500x1_0_1 main_v45
  let main_v47 : IVec S4096x500x1 32 := broadcastInDim S4096x500x1 ![0, 1] bcast_S4096x500_S4096x500x1_0_1 main_v44
  let main_v48 : IVec S4096x500x2 32 := (fun a b => concatenate S4096x500x2 2 [⟨S4096x500x1, a⟩, ⟨S4096x500x1, b⟩] concatenates_S4096x500x1_S4096x500x1_S4096x500x2_d2) main_v46 main_v47
  let main_cst_10 : FVec F S_ .f32 := constant S_ .f32 0x3F800000#32
  let main_v49 : FVec F S4096x500 .f32 := broadcastInDim S4096x500 ![] bcast_S_S4096x500 main_cst_10
  let main_v50 : FVec F S4096x5000 .f32 := (fun x i u => Host.scatter scatter_S4096x5000_S4096x500x2_S4096x500_n_01_01_2 (fun _ b => b) x i u) main_v32 main_v48 main_v49
  let main_v51 : FVec F S4096x5000 .f32 := mulf main_v50 main_v17
  let main_v52 : FVec F S4096x1000x5 .f32 := shapeCast S4096x1000x5 main_v51 shapeCasts_S4096x5000_S4096x1000x5
  let main_cst_11 : FVec F S_ .f32 := constant S_ .f32 0x00000000#32
  let main_v53 : FVec F S4096x1000 .f32 := (fun x v => Host.reduceAdd x v reducesTo_S4096x1000x5_S4096x1000_d2 h_S_) main_v52 main_cst_11
  let main_cst_12 : FVec F S_ .f32 := constant S_ .f32 0x00000000#32
  let main_v54 : FVec F S4096x1000 .f32 := broadcastInDim S4096x1000 ![] bcast_S_S4096x1000 main_cst_12
  fn_part3 (F := F) main_arg1 main_v31 main_v53 main_v54

def fn_part1 {F : FTy → Type} [FloatOps F] (main_arg1 : IVec S4096 32) (main_v17 : FVec F S4096x5000 .f32) (main_v18 : IVec S4096x1 32) (main_v19 : IVec S1x5000 32) : IVec S4096 1 :=
  let main_v20 : IVec S4096x5000 32 := broadcastInDim S4096x5000 ![0, 1] bcast_S4096x1_S4096x5000_0_1 main_v18
  let main_v21 : IVec S4096x5000 32 := broadcastInDim S4096x5000 ![0, 1] bcast_S1x5000_S4096x5000_0_1 main_v19
  let main_v22 : IVec S4096x5000 32 := subi main_v20 main_v21
  let main_c : IVec S_ 32 := constantI S_ 32 0#32
  let main_v23 : IVec S4096x5000 32 := broadcastInDim S4096x5000 ![] bcast_S_S4096x5000 main_c
  let main_v24 : IVec S4096x5000 1 := cmpi .eq main_v22 main_v23
  let main_v25 : FVec F S4096x5000 .f32 := uitofp .f32 main_v24
  let main_v26 : FVec F S4096x5000 .f32 := addf main_v17 main_v25
  let main_values : FVec F S4096x501 .f32 := (fun x => (Host.topK S4096x501 1 (FloatOps.cmpfTotal .gt) x sliceFits_S4096x5000_S4096x501).1) main_v26
  let main_indices : IVec S4096x501 32 := (fun x => (Host.topK S4096x501 1 (FloatOps.cmpfTotal .gt) x sliceFits_S4096x5000_S4096x501).2) main_v26
  let main_v27 : FVec F S4096x1 .f32 := (extractStridedSlice S4096x1 ![0, 499] · slices_S4096x501_S4096x1_0_499) main_values
  let main_v28 : FVec F S4096 .f32 := shapeCast S4096 main_v27 shapeCasts_S4096x1_S4096
  let main_v29 : FVec F S4096x1 .f32 := (extractStridedSlice S4096x1 ![0, 500] · slices_S4096x501_S4096x1_0_500) main_values
  let main_v30 : FVec F S4096 .f32 := shapeCast S4096 main_v29 shapeCasts_S4096x1_S4096
  let main_v31 : FVec F S4096 .f32 := subf main_v28 main_v30
  let main_values_3 : FVec F S4096x500 .f32 := (fun x => (Host.topK S4096x500 1 (FloatOps.cmpfTotal .gt) x sliceFits_S4096x5000_S4096x500).1) main_v26
  let main_indices_4 : IVec S4096x500 32 := (fun x => (Host.topK S4096x500 1 (FloatOps.cmpfTotal .gt) x sliceFits_S4096x5000_S4096x500).2) main_v26
  let main_cst_5 : FVec F S_ .f32 := constant S_ .f32 0x00000000#32
  let main_v32 : FVec F S4096x5000 .f32 := broadcastInDim S4096x5000 ![] bcast_S_S4096x5000 main_cst_5
  let main_v33 : IVec S4096 32 := iotaInDim S4096 32 0
  let main_v34 : IVec S4096x1 32 := broadcastInDim S4096x1 ![0] bcast_S4096_S4096x1_0 main_v33
  let main_c_6 : IVec S_ 32 := constantI S_ 32 0#32
  let main_v35 : IVec S4096x1 32 := broadcastInDim S4096x1 ![] bcast_S_S4096x1 main_c_6
  let main_v36 : IVec S4096x1 1 := cmpi .slt main_v34 main_v35
  fn_part2 (F := F) main_arg1 main_v17 main_v31 main_indices_4 main_v32 main_v34 main_v36

def fn {F : FTy → Type} [FloatOps F] (main_arg0 : FVec F S4096x64 .f32) (main_arg1 : IVec S4096 32) (main_arg2 : FVec F S64x5000 .f32) : IVec S4096 1 :=
  let main_v0 : IVec S1000 32 := iotaInDim S1000 32 0
  let main_v1 : IVec S1000x5 32 := broadcastInDim S1000x5 ![0] bcast_S1000_S1000x5_0 main_v0
  let main_v2 : IVec S5000 32 := shapeCast S5000 main_v1 shapeCasts_S1000x5_S5000
  let main_v3 : FVec F S4096x64 .f32 := mulf main_arg0 main_arg0
  let main_cst : FVec F S_ .f32 := constant S_ .f32 0x00000000#32
  let main_v4 : FVec F S4096 .f32 := (fun x v => Host.reduceAdd x v reducesTo_S4096x64_S4096_d1 h_S_) main_v3 main_cst
  let main_v5 : FVec F S4096x1 .f32 := broadcastInDim S4096x1 ![0] bcast_S4096_S4096x1_0 main_v4
  let main_v6 : FVec F S4096x1 .f32 := Host.sqrt main_v5
  let main_cst_0 : FVec F S_ .f32 := constant S_ .f32 0x2B8CBCCC#32
  let main_v7 : FVec F S4096x1 .f32 := fn_clip (F := F) main_v6 main_cst_0
  let main_v8 : FVec F S4096x64 .f32 := broadcastInDim S4096x64 ![0, 1] bcast_S4096x1_S4096x64_0_1 main_v7
  let main_v9 : FVec F S4096x64 .f32 := Host.divf main_arg0 main_v8
  let main_v10 : FVec F S64x5000 .f32 := mulf main_arg2 main_arg2
  let main_cst_1 : FVec F S_ .f32 := constant S_ .f32 0x00000000#32
  let main_v11 : FVec F S5000 .f32 := (fun x v => Host.reduceAdd x v reducesTo_S64x5000_S5000_d0 h_S_) main_v10 main_cst_1
  let main_v12 : FVec F S1x5000 .f32 := broadcastInDim S1x5000 ![1] bcast_S5000_S1x5000_1 main_v11
  let main_v13 : FVec F S1x5000 .f32 := Host.sqrt main_v12
  let main_cst_2 : FVec F S_ .f32 := constant S_ .f32 0x2B8CBCCC#32
  let main_v14 : FVec F S1x5000 .f32 := fn_clip_0 (F := F) main_v13 main_cst_2
  let main_v15 : FVec F S64x5000 .f32 := broadcastInDim S64x5000 ![0, 1] bcast_S1x5000_S64x5000_0_1 main_v14
  let main_v16 : FVec F S64x5000 .f32 := Host.divf main_arg2 main_v15
  let main_v17 : FVec F S4096x5000 .f32 := (fun l r => Host.dotGeneral dot_S4096x64_S64x5000_S4096x5000_1_0_0_1_n_n none l r) main_v9 main_v16
  let main_v18 : IVec S4096x1 32 := broadcastInDim S4096x1 ![0] bcast_S4096_S4096x1_0 main_arg1
  let main_v19 : IVec S1x5000 32 := broadcastInDim S1x5000 ![1] bcast_S5000_S1x5000_1 main_v2
  fn_part1 (F := F) main_arg1 main_v17 main_v18 main_v19
-- ==== Kernel.lean ====
abbrev S4096x64 : Shape := ⟨2, ![4096, 64]⟩
abbrev S4096 : Shape := ⟨1, ![4096]⟩
abbrev S64x5000 : Shape := ⟨2, ![64, 5000]⟩
abbrev S64x1000x5 : Shape := ⟨3, ![64, 1000, 5]⟩
abbrev S64x5x1000 : Shape := ⟨3, ![64, 5, 1000]⟩
abbrev S5000x64 : Shape := ⟨2, ![5000, 64]⟩
abbrev S32x1x128 : Shape := ⟨3, ![32, 1, 128]⟩
abbrev S1x128 : Shape := ⟨2, ![1, 128]⟩
abbrev S128x64 : Shape := ⟨2, ![128, 64]⟩
abbrev S1x1x128 : Shape := ⟨3, ![1, 1, 128]⟩
abbrev S128 : Shape := ⟨1, ![128]⟩
abbrev S128x1 : Shape := ⟨2, ![128, 1]⟩
abbrev S5000 : Shape := ⟨1, ![5000]⟩
abbrev S1x5000 : Shape := ⟨2, ![1, 5000]⟩
abbrev S128x5000 : Shape := ⟨2, ![128, 5000]⟩
abbrev S128x1000 : Shape := ⟨2, ![128, 1000]⟩
abbrev S1 : Shape := ⟨1, ![1]⟩
abbrev S1x1 : Shape := ⟨2, ![1, 1]⟩
abbrev S200x64 : Shape := ⟨2, ![200, 64]⟩
abbrev S200 : Shape := ⟨1, ![200]⟩
abbrev S200x1 : Shape := ⟨2, ![200, 1]⟩
abbrev S200x5000 : Shape := ⟨2, ![200, 5000]⟩
abbrev S200x1000 : Shape := ⟨2, ![200, 1000]⟩
abbrev S1x200 : Shape := ⟨2, ![1, 200]⟩
abbrev S_ : Shape := ⟨0, ![]⟩

abbrev nBuf : Space → Nat
  | .hbm => 33
  | .vmem => 10
  | .smem => 0
  | _ => 0

abbrev bufTy : (tb : Table) → Fin (tcTables nBuf tb) → BufTy
  | .hbm, ⟨0, _⟩ => ⟨S4096x64, .f32⟩
  | .hbm, ⟨1, _⟩ => ⟨S4096, .i32⟩
  | .hbm, ⟨2, _⟩ => ⟨S64x5000, .f32⟩
  | .hbm, ⟨3, _⟩ => ⟨S64x1000x5, .f32⟩
  | .hbm, ⟨4, _⟩ => ⟨S64x5x1000, .f32⟩
  | .hbm, ⟨5, _⟩ => ⟨S64x5000, .f32⟩
  | .hbm, ⟨6, _⟩ => ⟨S5000x64, .f32⟩
  | .hbm, ⟨7, _⟩ => ⟨S32x1x128, .i32⟩
  | .hbm, ⟨8, _⟩ => ⟨S1x128, .f32⟩
  | .hbm, ⟨9, _⟩ => ⟨S1x128, .f32⟩
  | .hbm, ⟨10, _⟩ => ⟨S1x1, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S1x1, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S1x1, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S1x1, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .local _ .vmem, ⟨0, _⟩ => ⟨S128x64, .f32⟩
  | .local _ .vmem, ⟨1, _⟩ => ⟨S128x64, .f32⟩
  | .local _ .vmem, ⟨2, _⟩ => ⟨S64x5000, .f32⟩
  | .local _ .vmem, ⟨3, _⟩ => ⟨S1x1x128, .i32⟩
  | .local _ .vmem, ⟨4, _⟩ => ⟨S1x1x128, .i32⟩
  | .local _ .vmem, ⟨5, _⟩ => ⟨S1x128, .f32⟩
  | .local _ .vmem, ⟨6, _⟩ => ⟨S200x64, .f32⟩
  | .local _ .vmem, ⟨7, _⟩ => ⟨S200x64, .f32⟩
  | .local _ .vmem, ⟨8, _⟩ => ⟨S64x5000, .f32⟩
  | .local _ .vmem, ⟨9, _⟩ => ⟨S1x128, .f32⟩
  | _, _ => ⟨S4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc1_sem0_0 : DmaSem sig := 6
abbrev cc1_sem0_1 : DmaSem sig := 7
abbrev cc1_sem1_0 : DmaSem sig := 8
abbrev cc1_sem2_0 : DmaSem sig := 9

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_15 : BitVec 32 := 0#32
  let c24_i32 : BitVec 32 := 24#32
  let v47 : BitVec 32 := Scalar.addi c0_i32_15 c24_i32
  let c1_i32_16 : BitVec 32 := 1#32
  ⟨c0_i32_15, v47, c1_i32_16⟩
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x5000 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S200x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x5000 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]
-- ==== ReferenceIdeal.lean ====
abbrev S4096x64 : Shape := ⟨2, ![4096, 64]⟩
abbrev S4096 : Shape := ⟨1, ![4096]⟩
abbrev S64x5000 : Shape := ⟨2, ![64, 5000]⟩
abbrev S1000 : Shape := ⟨1, ![1000]⟩
abbrev S1000x5 : Shape := ⟨2, ![1000, 5]⟩
abbrev S5000 : Shape := ⟨1, ![5000]⟩
abbrev S5000x1 : Shape := ⟨2, ![5000, 1]⟩
abbrev S1x1000 : Shape := ⟨2, ![1, 1000]⟩
abbrev S5000x1000 : Shape := ⟨2, ![5000, 1000]⟩
abbrev S_ : Shape := ⟨0, ![]⟩
abbrev S1x5000 : Shape := ⟨2, ![1, 5000]⟩
abbrev S4096x1 : Shape := ⟨2, ![4096, 1]⟩
abbrev S4096x5000 : Shape := ⟨2, ![4096, 5000]⟩
abbrev S4096x500 : Shape := ⟨2, ![4096, 500]⟩
abbrev S4096x500x1 : Shape := ⟨3, ![4096, 500, 1]⟩
abbrev S4096x500x2 : Shape := ⟨3, ![4096, 500, 2]⟩
abbrev S4096x1000 : Shape := ⟨2, ![4096, 1000]⟩
abbrev S4096x1x1 : Shape := ⟨3, ![4096, 1, 1]⟩
abbrev S1 : Shape := ⟨1, ![1]⟩
abbrev S1x1x1 : Shape := ⟨3, ![1, 1, 1]⟩
abbrev S5000x64 : Shape := ⟨2, ![5000, 64]⟩
abbrev S5000x5000 : Shape := ⟨2, ![5000, 5000]⟩
abbrev S5000x1x1 : Shape := ⟨3, ![5000, 1, 1]⟩
abbrev S4096000 : Shape := ⟨1, ![4096000]⟩
abbrev S4096000x1 : Shape := ⟨2, ![4096000, 1]⟩

abbrev nBuf : Space → Nat
  | .hbm => 372
  | .vmem => 0
  | .smem => 0
  | _ => 0

abbrev hbmTy0_0 (i : Nat) : BufTy := match i % 128 with
  | 0 => ⟨S4096x64, .f32⟩
  | 1 => ⟨S4096, .i32⟩
  | 2 => ⟨S64x5000, .f32⟩
  | 3 => ⟨S1000, .i32⟩
  | 4 => ⟨S1000x5, .i32⟩
  | 5 => ⟨S5000, .i32⟩
  | 6 => ⟨S5000x1, .i32⟩
  | 7 => ⟨S1x1000, .i32⟩
  | 8 => ⟨S5000x1000, .i32⟩
  | 9 => ⟨S5000x1000, .i32⟩
  | 10 => ⟨S5000x1000, .i1⟩
  | 11 => ⟨S5000x1000, .f32⟩
  | 12 => ⟨S64x5000, .f32⟩
  | 13 => ⟨S_, .f32⟩
  | 14 => ⟨S5000, .f32⟩
  | 15 => ⟨S1x5000, .f32⟩
  | 16 => ⟨S1x5000, .f32⟩
  | 17 => ⟨S_, .f32⟩
  | 18 => ⟨S_, .f32⟩
  | 19 => ⟨S1x5000, .f32⟩
  | 20 => ⟨S1x5000, .f32⟩
  | 21 => ⟨S64x5000, .f32⟩
  | 22 => ⟨S64x5000, .f32⟩
  | 23 => ⟨S4096x64, .f32⟩
  | 24 => ⟨S_, .f32⟩
  | 25 => ⟨S4096, .f32⟩
  | 26 => ⟨S4096x1, .f32⟩
  | 27 => ⟨S4096x1, .f32⟩
  | 28 => ⟨S_, .f32⟩
  | 29 => ⟨S_, .f32⟩
  | 30 => ⟨S4096x1, .f32⟩
  | 31 => ⟨S4096x1, .f32⟩
  | 32 => ⟨S4096x64, .f32⟩
  | 33 => ⟨S4096x64, .f32⟩
  | 34 => ⟨S4096x5000, .f32⟩
  | 35 => ⟨S4096x1, .i32⟩
  | 36 => ⟨S1x5000, .i32⟩
  | 37 => ⟨S4096x5000, .i32⟩
  | 38 => ⟨S4096x5000, .i32⟩
  | 39 => ⟨S4096x5000, .i32⟩
  | 40 => ⟨S_, .i32⟩
  | 41 => ⟨S4096x5000, .i32⟩
  | 42 => ⟨S4096x5000, .i1⟩
  | 43 => ⟨S4096x5000, .f32⟩
  | 44 => ⟨S4096x5000, .f32⟩
  | 45 => ⟨S4096x500, .f32⟩
  | 46 => ⟨S4096x500, .i32⟩
  | 47 => ⟨S_, .f32⟩
  | 48 => ⟨S4096x5000, .f32⟩
  | 49 => ⟨S4096, .i32⟩
  | 50 => ⟨S4096x1, .i32⟩
  | 51 => ⟨S_, .i32⟩
  | 52 => ⟨S4096x1, .i32⟩
  | 53 => ⟨S4096x1, .i1⟩
  | 54 => ⟨S_, .i32⟩
  | 55 => ⟨S4096x1, .i32⟩
  | 56 => ⟨S4096x1, .i32⟩
  | 57 => ⟨S4096x1, .i32⟩
  | 58 => ⟨S_, .i32⟩
  | 59 => ⟨S4096x500, .i32⟩
  | 60 => ⟨S4096x500, .i1⟩
  | 61 => ⟨S_, .i32⟩
  | 62 => ⟨S4096x500, .i32⟩
  | 63 => ⟨S4096x500, .i32⟩
  | 64 => ⟨S4096x500, .i32⟩
  | 65 => ⟨S4096x500, .i32⟩
  | 66 => ⟨S4096x500x1, .i32⟩
  | 67 => ⟨S4096x500x1, .i32⟩
  | 68 => ⟨S4096x500x2, .i32⟩
  | 69 => ⟨S_, .f32⟩
  | 70 => ⟨S4096x500, .f32⟩
  | 71 => ⟨S4096x5000, .f32⟩
  | 72 => ⟨S4096x5000, .f32⟩
  | 73 => ⟨S4096x1000, .f32⟩
  | 74 => ⟨S_, .f32⟩
  | 75 => ⟨S4096x1000, .f32⟩
  | 76 => ⟨S4096x1000, .i1⟩
  | 77 => ⟨S4096x1000, .f32⟩
  | 78 => ⟨S_, .f32⟩
  | 79 => ⟨S4096x1000, .f32⟩
  | 80 => ⟨S4096x1000, .f32⟩
  | 81 => ⟨S_, .f32⟩
  | 82 => ⟨S4096x1000, .f32⟩
  | 83 => ⟨S4096x1000, .f32⟩
  | 84 => ⟨S4096x1000, .f32⟩
  | 85 => ⟨S4096x1000, .f32⟩
  | 86 => ⟨S_, .f32⟩
  | 87 => ⟨S4096, .f32⟩
  | 88 => ⟨S4096x1, .f32⟩
  | 89 => ⟨S_, .f32⟩
  | 90 => ⟨S4096x1, .f32⟩
  | 91 => ⟨S4096x1, .f32⟩
  | 92 => ⟨S4096x1000, .f32⟩
  | 93 => ⟨S4096x1000, .f32⟩
  | 94 => ⟨S4096x1, .i32⟩
  | 95 => ⟨S1x1000, .i32⟩
  | 96 => ⟨S4096x1000, .i32⟩
  | 97 => ⟨S4096x1000, .i32⟩
  | 98 => ⟨S4096x1000, .i1⟩
  | 99 => ⟨S4096x1000, .f32⟩
  | 100 => ⟨S4096x1000, .f32⟩
  | 101 => ⟨S_, .f32⟩
  | 102 => ⟨S4096x1000, .f32⟩
  | 103 => ⟨S4096x1000, .f32⟩
  | 104 => ⟨S_, .f32⟩
  | 105 => ⟨S_, .f32⟩
  | 106 => ⟨S_, .f32⟩
  | 107 => ⟨S4096x1000, .f32⟩
  | 108 => ⟨S4096x1000, .f32⟩
  | 109 => ⟨S_, .f32⟩
  | 110 => ⟨S4096x1000, .f32⟩
  | 111 => ⟨S4096x1000, .f32⟩
  | 112 => ⟨S4096x1000, .f32⟩
  | 113 => ⟨S_, .f32⟩
  | 114 => ⟨S4096x1000, .f32⟩
  | 115 => ⟨S4096x1000, .f32⟩
  | 116 => ⟨S_, .f32⟩
  | 117 => ⟨S4096x1000, .f32⟩
  | 118 => ⟨S4096x1000, .f32⟩
  | 119 => ⟨S4096x1000, .f32⟩
  | 120 => ⟨S_, .f32⟩
  | 121 => ⟨S4096x1000, .f32⟩
  | 122 => ⟨S4096x1000, .f32⟩
  | 123 => ⟨S_, .f32⟩
  | 124 => ⟨S4096x1000, .f32⟩
  | 125 => ⟨S4096x1000, .i1⟩
  | 126 => ⟨S_, .f32⟩
  | 127 => ⟨S4096x1000, .f32⟩
  | _ => ⟨S4096x64, .f32⟩

abbrev hbmTy0_1 (i : Nat) : BufTy := match i % 128 with
  | 0 => ⟨S4096x1000, .f32⟩
  | 1 => ⟨S4096x1000, .f32⟩
  | 2 => ⟨S4096x1000, .f32⟩
  | 3 => ⟨S_, .f32⟩
  | 4 => ⟨S4096x1000, .f32⟩
  | 5 => ⟨S4096x1000, .f32⟩
  | 6 => ⟨S4096x1000, .f32⟩
  | 7 => ⟨S4096x1000, .f32⟩
  | 8 => ⟨S_, .f32⟩
  | 9 => ⟨S4096x1000, .f32⟩
  | 10 => ⟨S4096x1000, .f32⟩
  | 11 => ⟨S_, .f32⟩
  | 12 => ⟨S4096, .f32⟩
  | 13 => ⟨S_, .f32⟩
  | 14 => ⟨S4096, .f32⟩
  | 15 => ⟨S4096, .f32⟩
  | 16 => ⟨S4096x1, .f32⟩
  | 17 => ⟨S4096x1000, .f32⟩
  | 18 => ⟨S4096x1000, .f32⟩
  | 19 => ⟨S4096x1000, .f32⟩
  | 20 => ⟨S_, .f32⟩
  | 21 => ⟨S4096, .f32⟩
  | 22 => ⟨S4096x1, .f32⟩
  | 23 => ⟨S4096x1, .f32⟩
  | 24 => ⟨S4096x1000, .f32⟩
  | 25 => ⟨S4096x1000, .f32⟩
  | 26 => ⟨S4096x1, .i32⟩
  | 27 => ⟨S_, .i32⟩
  | 28 => ⟨S4096x1, .i32⟩
  | 29 => ⟨S4096x1, .i1⟩
  | 30 => ⟨S_, .i32⟩
  | 31 => ⟨S4096x1, .i32⟩
  | 32 => ⟨S4096x1, .i32⟩
  | 33 => ⟨S4096x1, .i32⟩
  | 34 => ⟨S4096x1x1, .i32⟩
  | 35 => ⟨S1, .i32⟩
  | 36 => ⟨S_, .i32⟩
  | 37 => ⟨S4096x1x1, .i32⟩
  | 38 => ⟨S4096x1x1, .i1⟩
  | 39 => ⟨S1x1x1, .i32⟩
  | 40 => ⟨S4096x1x1, .i32⟩
  | 41 => ⟨S4096x1x1, .i1⟩
  | 42 => ⟨S4096x1x1, .i1⟩
  | 43 => ⟨S_, .i1⟩
  | 44 => ⟨S4096x1, .i1⟩
  | 45 => ⟨S4096x1, .f32⟩
  | 46 => ⟨S_, .f32⟩
  | 47 => ⟨S4096x1, .f32⟩
  | 48 => ⟨S4096x1, .f32⟩
  | 49 => ⟨S_, .f32⟩
  | 50 => ⟨S_, .f32⟩
  | 51 => ⟨S_, .f32⟩
  | 52 => ⟨S_, .f32⟩
  | 53 => ⟨S_, .f32⟩
  | 54 => ⟨S5000x64, .f32⟩
  | 55 => ⟨S5000x5000, .f32⟩
  | 56 => ⟨S5000x1000, .f32⟩
  | 57 => ⟨S_, .f32⟩
  | 58 => ⟨S5000x1000, .f32⟩
  | 59 => ⟨S5000x1000, .i1⟩
  | 60 => ⟨S5000x1000, .f32⟩
  | 61 => ⟨S_, .f32⟩
  | 62 => ⟨S5000x1000, .f32⟩
  | 63 => ⟨S5000x1000, .f32⟩
  | 64 => ⟨S_, .f32⟩
  | 65 => ⟨S5000x1000, .f32⟩
  | 66 => ⟨S5000x1000, .f32⟩
  | 67 => ⟨S5000x1000, .f32⟩
  | 68 => ⟨S5000x1000, .f32⟩
  | 69 => ⟨S_, .f32⟩
  | 70 => ⟨S5000, .f32⟩
  | 71 => ⟨S5000x1, .f32⟩
  | 72 => ⟨S_, .f32⟩
  | 73 => ⟨S5000x1, .f32⟩
  | 74 => ⟨S5000x1, .f32⟩
  | 75 => ⟨S5000x1000, .f32⟩
  | 76 => ⟨S5000x1000, .f32⟩
  | 77 => ⟨S5000x1, .i32⟩
  | 78 => ⟨S1x1000, .i32⟩
  | 79 => ⟨S5000x1000, .i32⟩
  | 80 => ⟨S5000x1000, .i32⟩
  | 81 => ⟨S5000x1000, .i1⟩
  | 82 => ⟨S5000x1000, .f32⟩
  | 83 => ⟨S5000x1000, .f32⟩
  | 84 => ⟨S_, .f32⟩
  | 85 => ⟨S5000x1000, .f32⟩
  | 86 => ⟨S5000x1000, .f32⟩
  | 87 => ⟨S_, .f32⟩
  | 88 => ⟨S_, .f32⟩
  | 89 => ⟨S_, .f32⟩
  | 90 => ⟨S5000x1000, .f32⟩
  | 91 => ⟨S5000x1000, .f32⟩
  | 92 => ⟨S_, .f32⟩
  | 93 => ⟨S5000x1000, .f32⟩
  | 94 => ⟨S5000x1000, .f32⟩
  | 95 => ⟨S5000x1000, .f32⟩
  | 96 => ⟨S_, .f32⟩
  | 97 => ⟨S5000x1000, .f32⟩
  | 98 => ⟨S5000x1000, .f32⟩
  | 99 => ⟨S_, .f32⟩
  | 100 => ⟨S5000x1000, .f32⟩
  | 101 => ⟨S5000x1000, .f32⟩
  | 102 => ⟨S5000x1000, .f32⟩
  | 103 => ⟨S_, .f32⟩
  | 104 => ⟨S5000x1000, .f32⟩
  | 105 => ⟨S5000x1000, .f32⟩
  | 106 => ⟨S_, .f32⟩
  | 107 => ⟨S5000x1000, .f32⟩
  | 108 => ⟨S5000x1000, .i1⟩
  | 109 => ⟨S_, .f32⟩
  | 110 => ⟨S5000x1000, .f32⟩
  | 111 => ⟨S5000x1000, .f32⟩
  | 112 => ⟨S5000x1000, .f32⟩
  | 113 => ⟨S5000x1000, .f32⟩
  | 114 => ⟨S_, .f32⟩
  | 115 => ⟨S5000x1000, .f32⟩
  | 116 => ⟨S5000x1000, .f32⟩
  | 117 => ⟨S5000x1000, .f32⟩
  | 118 => ⟨S5000x1000, .f32⟩
  | 119 => ⟨S_, .f32⟩
  | 120 => ⟨S5000x1000, .f32⟩
  | 121 => ⟨S5000x1000, .f32⟩
  | 122 => ⟨S_, .f32⟩
  | 123 => ⟨S5000, .f32⟩
  | 124 => ⟨S_, .f32⟩
  | 125 => ⟨S5000, .f32⟩
  | 126 => ⟨S5000, .f32⟩
  | 127 => ⟨S5000x1, .f32⟩
  | _ => ⟨S4096x64, .f32⟩

abbrev hbmTy0_2 (i : Nat) : BufTy := match i % 128 with
  | 0 => ⟨S5000x1000, .f32⟩
  | 1 => ⟨S5000x1000, .f32⟩
  | 2 => ⟨S5000x1000, .f32⟩
  | 3 => ⟨S_, .f32⟩
  | 4 => ⟨S5000, .f32⟩
  | 5 => ⟨S5000x1, .f32⟩
  | 6 => ⟨S5000x1, .f32⟩
  | 7 => ⟨S5000x1000, .f32⟩
  | 8 => ⟨S5000x1000, .f32⟩
  | 9 => ⟨S5000x1, .i32⟩
  | 10 => ⟨S_, .i32⟩
  | 11 => ⟨S5000x1, .i32⟩
  | 12 => ⟨S5000x1, .i1⟩
  | 13 => ⟨S_, .i32⟩
  | 14 => ⟨S5000x1, .i32⟩
  | 15 => ⟨S5000x1, .i32⟩
  | 16 => ⟨S5000x1, .i32⟩
  | 17 => ⟨S5000x1x1, .i32⟩
  | 18 => ⟨S1, .i32⟩
  | 19 => ⟨S_, .i32⟩
  | 20 => ⟨S5000x1x1, .i32⟩
  | 21 => ⟨S5000x1x1, .i1⟩
  | 22 => ⟨S1x1x1, .i32⟩
  | 23 => ⟨S5000x1x1, .i32⟩
  | 24 => ⟨S5000x1x1, .i1⟩
  | 25 => ⟨S5000x1x1, .i1⟩
  | 26 => ⟨S_, .i1⟩
  | 27 => ⟨S5000x1, .i1⟩
  | 28 => ⟨S5000x1, .f32⟩
  | 29 => ⟨S_, .f32⟩
  | 30 => ⟨S5000x1, .f32⟩
  | 31 => ⟨S5000x1, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S4096x1, .f32⟩
  | 41 => ⟨S4096x1, .i32⟩
  | 42 => ⟨S4096, .i32⟩
  | 43 => ⟨S4096, .i1⟩
  | 44 => ⟨S4096, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S4096x1, .i32⟩
  | 52 => ⟨S1x1000, .i32⟩
  | 53 => ⟨S4096x1000, .i32⟩
  | 54 => ⟨S4096x1000, .i32⟩
  | 55 => ⟨S4096x1000, .i1⟩
  | 56 => ⟨S4096x1000, .f32⟩
  | 57 => ⟨S4096000, .f32⟩
  | 58 => ⟨S4096000, .f32⟩
  | 59 => ⟨S4096000, .f32⟩
  | 60 => ⟨S4096000, .i32⟩
  | 61 => ⟨S4096000, .f32⟩
  | 62 => ⟨S4096000, .i32⟩
  | 63 => ⟨S_, .i32⟩
  | 64 => ⟨S4096000, .i32⟩
  | 65 => ⟨S4096000, .i1⟩
  | 66 => ⟨S_, .i32⟩
  | 67 => ⟨S4096000, .i32⟩
  | 68 => ⟨S4096000, .i32⟩
  | 69 => ⟨S4096000, .i32⟩
  | 70 => ⟨S4096000x1, .i32⟩
  | 71 => ⟨S4096000, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S4096000, .f32⟩
  | 79 => ⟨S_, .f32⟩
  | 80 => ⟨S4096000, .f32⟩
  | 81 => ⟨S4096000, .f32⟩
  | 82 => ⟨S_, .f32⟩
  | 83 => ⟨S_, .f32⟩
  | 84 => ⟨S4096000, .f32⟩
  | 85 => ⟨S4096000, .f32⟩
  | 86 => ⟨S4096000, .f32⟩
  | 87 => ⟨S_, .f32⟩
  | 88 => ⟨S4096000, .f32⟩
  | 89 => ⟨S4096000, .f32⟩
  | 90 => ⟨S4096000, .f32⟩
  | 91 => ⟨S4096000, .f32⟩
  | 92 => ⟨S4096000, .f32⟩
  | 93 => ⟨S4096000, .f32⟩
  | 94 => ⟨S4096000, .f32⟩
  | 95 => ⟨S1, .f32⟩
  | 96 => ⟨S1, .i32⟩
  | 97 => ⟨S_, .i32⟩
  | 98 => ⟨S_, .i32⟩
  | 99 => ⟨S_, .i1⟩
  | 100 => ⟨S_, .i32⟩
  | 101 => ⟨S_, .i32⟩
  | 102 => ⟨S_, .i32⟩
  | 103 => ⟨S1, .f32⟩
  | 104 => ⟨S_, .f32⟩
  | 105 => ⟨S_, .i32⟩
  | 106 => ⟨S_, .i32⟩
  | 107 => ⟨S_, .i1⟩
  | 108 => ⟨S_, .i32⟩
  | 109 => ⟨S_, .i32⟩
  | 110 => ⟨S_, .i32⟩
  | 111 => ⟨S1, .f32⟩
  | 112 => ⟨S_, .f32⟩
  | 113 => ⟨S_, .f32⟩
  | 114 => ⟨S_, .f32⟩
  | 115 => ⟨S_, .f32⟩
  | _ => ⟨S4096x64, .f32⟩

abbrev hbmTy (i : Nat) : BufTy := match i / 128 with
  | 0 => hbmTy0_0 i
  | 1 => hbmTy0_1 i
  | 2 => hbmTy0_2 i
  | _ => ⟨S4096x64, .f32⟩

abbrev bufTy : (tb : Table) → Fin (tcTables nBuf tb) → BufTy
  | .hbm, ⟨i, _⟩ => hbmTy i
  | _, _ => ⟨S4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_call1_v0 : Ref sig .tc := ⟨.hbm, 18, rfl⟩
abbrev main_call1_v1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_call2_v0 : Ref sig .tc := ⟨.hbm, 29, rfl⟩
abbrev main_call2_v1 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_values : Ref sig .tc := ⟨.hbm, 45, rfl⟩
abbrev main_indices : Ref sig .tc := ⟨.hbm, 46, rfl⟩
abbrev main_cst_3 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_4 : Ref sig .tc := ⟨.hbm, 51, rfl⟩
abbrev main_v31 : Ref sig .tc := ⟨.hbm, 52, rfl⟩
abbrev main_v32 : Ref sig .tc := ⟨.hbm, 53, rfl⟩
abbrev main_c_5 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_c_6 : Ref sig .tc := ⟨.hbm, 58, rfl⟩
abbrev main_v36 : Ref sig .tc := ⟨.hbm, 59, rfl⟩
abbrev main_v37 : Ref sig .tc := ⟨.hbm, 60, rfl⟩
abbrev main_c_7 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_8 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_cst_9 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_10 : Ref sig .tc := ⟨.hbm, 78, rfl⟩
abbrev main_v52 : Ref sig .tc := ⟨.hbm, 79, rfl⟩
abbrev main_v53 : Ref sig .tc := ⟨.hbm, 80, rfl⟩
abbrev main_cst_11 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_12 : Ref sig .tc := ⟨.hbm, 86, rfl⟩
abbrev main_v58 : Ref sig .tc := ⟨.hbm, 87, rfl⟩
abbrev main_v59 : Ref sig .tc := ⟨.hbm, 88, rfl⟩
abbrev main_cst_13 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_call3_v0 : Ref sig .tc := ⟨.hbm, 94, rfl⟩
abbrev main_call3_v1 : Ref sig .tc := ⟨.hbm, 95, rfl⟩
abbrev main_call3_v2 : Ref sig .tc := ⟨.hbm, 96, rfl⟩
abbrev main_call3_v3 : Ref sig .tc := ⟨.hbm, 97, rfl⟩
abbrev main_call3_v4 : Ref sig .tc := ⟨.hbm, 98, rfl⟩
abbrev main_v64 : Ref sig .tc := ⟨.hbm, 99, rfl⟩
abbrev main_v65 : Ref sig .tc := ⟨.hbm, 100, rfl⟩
abbrev main_cst_14 : Ref sig .tc := ⟨.hbm, 101, rfl⟩
abbrev main_v66 : Ref sig .tc := ⟨.hbm, 102, rfl⟩
abbrev main_v67 : Ref sig .tc := ⟨.hbm, 103, rfl⟩
abbrev main_cst_15 : Ref sig .tc := ⟨.hbm, 104, rfl⟩
abbrev main_cst_16 : Ref sig .tc := ⟨.hbm, 105, rfl⟩
abbrev main_call4_v0 : Ref sig .tc := ⟨.hbm, 106, rfl⟩
abbrev main_call4_v1 : Ref sig .tc := ⟨.hbm, 107, rfl⟩
abbrev main_call4_v2 : Ref sig .tc := ⟨.hbm, 108, rfl⟩
abbrev main_call4_v3 : Ref sig .tc := ⟨.hbm, 109, rfl⟩
abbrev main_call4_v4 : Ref sig .tc := ⟨.hbm, 110, rfl⟩
abbrev main_v68 : Ref sig .tc := ⟨.hbm, 111, rfl⟩
abbrev main_v69 : Ref sig .tc := ⟨.hbm, 112, rfl⟩
abbrev main_cst_17 : Ref sig .tc := ⟨.hbm, 113, rfl⟩
abbrev main_v70 : Ref sig .tc := ⟨.hbm, 114, rfl⟩
abbrev main_v71 : Ref sig .tc := ⟨.hbm, 115, rfl⟩
abbrev main_cst_18 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_cst_19 : Ref sig .tc := ⟨.hbm, 120, rfl⟩
abbrev main_v75 : Ref sig .tc := ⟨.hbm, 121, rfl⟩
abbrev main_v76 : Ref sig .tc := ⟨.hbm, 122, rfl⟩
abbrev main_cst_20 : Ref sig .tc := ⟨.hbm, 123, rfl⟩
abbrev main_v77 : Ref sig .tc := ⟨.hbm, 124, rfl⟩
abbrev main_v78 : Ref sig .tc := ⟨.hbm, 125, rfl⟩
abbrev main_cst_21 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_cst_22 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_cst_23 : Ref sig .tc := ⟨.hbm, 136, rfl⟩
abbrev main_v87 : Ref sig .tc := ⟨.hbm, 137, rfl⟩
abbrev main_v88 : Ref sig .tc := ⟨.hbm, 138, rfl⟩
abbrev main_call6_cst : Ref sig .tc := ⟨.hbm, 139, rfl⟩
abbrev main_call6_v0 : Ref sig .tc := ⟨.hbm, 140, rfl⟩
abbrev main_call6_cst_0 : Ref sig .tc := ⟨.hbm, 141, rfl⟩
abbrev main_call6_v1 : Ref sig .tc := ⟨.hbm, 142, rfl⟩
abbrev main_call6_v2 : Ref sig .tc := ⟨.hbm, 143, rfl⟩
abbrev main_call6_v3 : Ref sig .tc := ⟨.hbm, 144, rfl⟩
abbrev main_call6_v4 : Ref sig .tc := ⟨.hbm, 145, rfl⟩
abbrev main_call6_v5 : Ref sig .tc := ⟨.hbm, 146, rfl⟩
abbrev main_call6_v6 : Ref sig .tc := ⟨.hbm, 147, rfl⟩
abbrev main_call6_cst_1 : Ref sig .tc := ⟨.hbm, 148, rfl⟩
abbrev main_call6_v7 : Ref sig .tc := ⟨.hbm, 149, rfl⟩
abbrev main_call6_v8 : Ref sig .tc := ⟨.hbm, 150, rfl⟩
abbrev main_call6_v9 : Ref sig .tc := ⟨.hbm, 151, rfl⟩
abbrev main_call6_v10 : Ref sig .tc := ⟨.hbm, 152, rfl⟩
abbrev main_v89 : Ref sig .tc := ⟨.hbm, 153, rfl⟩
abbrev main_v90 : Ref sig .tc := ⟨.hbm, 154, rfl⟩
abbrev main_call7_c : Ref sig .tc := ⟨.hbm, 155, rfl⟩
abbrev main_call7_v0 : Ref sig .tc := ⟨.hbm, 156, rfl⟩
abbrev main_call7_v1 : Ref sig .tc := ⟨.hbm, 157, rfl⟩
abbrev main_call7_c_0 : Ref sig .tc := ⟨.hbm, 158, rfl⟩
abbrev main_call7_v2 : Ref sig .tc := ⟨.hbm, 159, rfl⟩
abbrev main_call7_v3 : Ref sig .tc := ⟨.hbm, 160, rfl⟩
abbrev main_call7_v4 : Ref sig .tc := ⟨.hbm, 161, rfl⟩
abbrev main_call7_v5 : Ref sig .tc := ⟨.hbm, 162, rfl⟩
abbrev main_call7_c_1 : Ref sig .tc := ⟨.hbm, 163, rfl⟩
abbrev main_call7_c_2 : Ref sig .tc := ⟨.hbm, 164, rfl⟩
abbrev main_call7_v6 : Ref sig .tc := ⟨.hbm, 165, rfl⟩
abbrev main_call7_v7 : Ref sig .tc := ⟨.hbm, 166, rfl⟩
abbrev main_call7_v8 : Ref sig .tc := ⟨.hbm, 167, rfl⟩
abbrev main_call7_v9 : Ref sig .tc := ⟨.hbm, 168, rfl⟩
abbrev main_call7_v10 : Ref sig .tc := ⟨.hbm, 169, rfl⟩
abbrev main_call7_v11 : Ref sig .tc := ⟨.hbm, 170, rfl⟩
abbrev main_call7_c_3 : Ref sig .tc := ⟨.hbm, 171, rfl⟩
abbrev main_call7_v12 : Ref sig .tc := ⟨.hbm, 172, rfl⟩
abbrev main_call7_v13 : Ref sig .tc := ⟨.hbm, 173, rfl⟩
abbrev main_call7_cst : Ref sig .tc := ⟨.hbm, 174, rfl⟩
abbrev main_call7_v14 : Ref sig .tc := ⟨.hbm, 175, rfl⟩
abbrev main_v91 : Ref sig .tc := ⟨.hbm, 176, rfl⟩
abbrev main_cst_24 : Ref sig .tc := ⟨.hbm, 177, rfl⟩
abbrev main_v92 : Ref sig .tc := ⟨.hbm, 178, rfl⟩
abbrev main_cst_25 : Ref sig .tc := ⟨.hbm, 179, rfl⟩
abbrev main_v93 : Ref sig .tc := ⟨.hbm, 180, rfl⟩
abbrev main_v94 : Ref sig .tc := ⟨.hbm, 181, rfl⟩
abbrev main_v95 : Ref sig .tc := ⟨.hbm, 182, rfl⟩
abbrev main_v96 : Ref sig .tc := ⟨.hbm, 183, rfl⟩
abbrev main_v97 : Ref sig .tc := ⟨.hbm, 184, rfl⟩
abbrev main_cst_26 : Ref sig .tc := ⟨.hbm, 185, rfl⟩
abbrev main_v98 : Ref sig .tc := ⟨.hbm, 186, rfl⟩
abbrev main_v99 : Ref sig .tc := ⟨.hbm, 187, rfl⟩
abbrev main_v100 : Ref sig .tc := ⟨.hbm, 188, rfl⟩
abbrev main_cst_27 : Ref sig .tc := ⟨.hbm, 189, rfl⟩
abbrev main_v101 : Ref sig .tc := ⟨.hbm, 190, rfl⟩
abbrev main_v102 : Ref sig .tc := ⟨.hbm, 191, rfl⟩
abbrev main_cst_28 : Ref sig .tc := ⟨.hbm, 192, rfl⟩
abbrev main_v103 : Ref sig .tc := ⟨.hbm, 193, rfl⟩
abbrev main_v104 : Ref sig .tc := ⟨.hbm, 194, rfl⟩
abbrev main_v105 : Ref sig .tc := ⟨.hbm, 195, rfl⟩
abbrev main_v106 : Ref sig .tc := ⟨.hbm, 196, rfl⟩
abbrev main_cst_29 : Ref sig .tc := ⟨.hbm, 197, rfl⟩
abbrev main_v107 : Ref sig .tc := ⟨.hbm, 198, rfl⟩
abbrev main_v108 : Ref sig .tc := ⟨.hbm, 199, rfl⟩
abbrev main_cst_30 : Ref sig .tc := ⟨.hbm, 200, rfl⟩
abbrev main_v109 : Ref sig .tc := ⟨.hbm, 201, rfl⟩
abbrev main_v110 : Ref sig .tc := ⟨.hbm, 202, rfl⟩
abbrev main_v111 : Ref sig .tc := ⟨.hbm, 203, rfl⟩
abbrev main_v112 : Ref sig .tc := ⟨.hbm, 204, rfl⟩
abbrev main_call8_v0 : Ref sig .tc := ⟨.hbm, 205, rfl⟩
abbrev main_call8_v1 : Ref sig .tc := ⟨.hbm, 206, rfl⟩
abbrev main_call8_v2 : Ref sig .tc := ⟨.hbm, 207, rfl⟩
abbrev main_call8_v3 : Ref sig .tc := ⟨.hbm, 208, rfl⟩
abbrev main_call8_v4 : Ref sig .tc := ⟨.hbm, 209, rfl⟩
abbrev main_v113 : Ref sig .tc := ⟨.hbm, 210, rfl⟩
abbrev main_v114 : Ref sig .tc := ⟨.hbm, 211, rfl⟩
abbrev main_cst_31 : Ref sig .tc := ⟨.hbm, 212, rfl⟩
abbrev main_v115 : Ref sig .tc := ⟨.hbm, 213, rfl⟩
abbrev main_v116 : Ref sig .tc := ⟨.hbm, 214, rfl⟩
abbrev main_cst_32 : Ref sig .tc := ⟨.hbm, 215, rfl⟩
abbrev main_cst_33 : Ref sig .tc := ⟨.hbm, 216, rfl⟩
abbrev main_call9_v0 : Ref sig .tc := ⟨.hbm, 217, rfl⟩
abbrev main_call9_v1 : Ref sig .tc := ⟨.hbm, 218, rfl⟩
abbrev main_call9_v2 : Ref sig .tc := ⟨.hbm, 219, rfl⟩
abbrev main_call9_v3 : Ref sig .tc := ⟨.hbm, 220, rfl⟩
abbrev main_call9_v4 : Ref sig .tc := ⟨.hbm, 221, rfl⟩
abbrev main_v117 : Ref sig .tc := ⟨.hbm, 222, rfl⟩
abbrev main_v118 : Ref sig .tc := ⟨.hbm, 223, rfl⟩
abbrev main_cst_34 : Ref sig .tc := ⟨.hbm, 224, rfl⟩
abbrev main_v119 : Ref sig .tc := ⟨.hbm, 225, rfl⟩
abbrev main_v120 : Ref sig .tc := ⟨.hbm, 226, rfl⟩
abbrev main_cst_35 : Ref sig .tc := ⟨.hbm, 227, rfl⟩
abbrev main_v121 : Ref sig .tc := ⟨.hbm, 228, rfl⟩
abbrev main_v122 : Ref sig .tc := ⟨.hbm, 229, rfl⟩
abbrev main_v123 : Ref sig .tc := ⟨.hbm, 230, rfl⟩
abbrev main_cst_36 : Ref sig .tc := ⟨.hbm, 231, rfl⟩
abbrev main_v124 : Ref sig .tc := ⟨.hbm, 232, rfl⟩
abbrev main_v125 : Ref sig .tc := ⟨.hbm, 233, rfl⟩
abbrev main_cst_37 : Ref sig .tc := ⟨.hbm, 234, rfl⟩
abbrev main_v126 : Ref sig .tc := ⟨.hbm, 235, rfl⟩
abbrev main_v127 : Ref sig .tc := ⟨.hbm, 236, rfl⟩
abbrev main_cst_38 : Ref sig .tc := ⟨.hbm, 237, rfl⟩
abbrev main_v128 : Ref sig .tc := ⟨.hbm, 238, rfl⟩
abbrev main_v129 : Ref sig .tc := ⟨.hbm, 239, rfl⟩
abbrev main_v130 : Ref sig .tc := ⟨.hbm, 240, rfl⟩
abbrev main_v131 : Ref sig .tc := ⟨.hbm, 241, rfl⟩
abbrev main_cst_39 : Ref sig .tc := ⟨.hbm, 242, rfl⟩
abbrev main_v132 : Ref sig .tc := ⟨.hbm, 243, rfl⟩
abbrev main_v133 : Ref sig .tc := ⟨.hbm, 244, rfl⟩
abbrev main_v134 : Ref sig .tc := ⟨.hbm, 245, rfl⟩
abbrev main_v135 : Ref sig .tc := ⟨.hbm, 246, rfl⟩
abbrev main_cst_40 : Ref sig .tc := ⟨.hbm, 247, rfl⟩
abbrev main_v136 : Ref sig .tc := ⟨.hbm, 248, rfl⟩
abbrev main_v137 : Ref sig .tc := ⟨.hbm, 249, rfl⟩
abbrev main_call11_cst : Ref sig .tc := ⟨.hbm, 250, rfl⟩
abbrev main_call11_v0 : Ref sig .tc := ⟨.hbm, 251, rfl⟩
abbrev main_call11_cst_0 : Ref sig .tc := ⟨.hbm, 252, rfl⟩
abbrev main_call11_v1 : Ref sig .tc := ⟨.hbm, 253, rfl⟩
abbrev main_call11_v2 : Ref sig .tc := ⟨.hbm, 254, rfl⟩
abbrev main_call11_v3 : Ref sig .tc := ⟨.hbm, 255, rfl⟩
abbrev main_call11_v4 : Ref sig .tc := ⟨.hbm, 256, rfl⟩
abbrev main_call11_v5 : Ref sig .tc := ⟨.hbm, 257, rfl⟩
abbrev main_call11_v6 : Ref sig .tc := ⟨.hbm, 258, rfl⟩
abbrev main_call11_cst_1 : Ref sig .tc := ⟨.hbm, 259, rfl⟩
abbrev main_call11_v7 : Ref sig .tc := ⟨.hbm, 260, rfl⟩
abbrev main_call11_v8 : Ref sig .tc := ⟨.hbm, 261, rfl⟩
abbrev main_call11_v9 : Ref sig .tc := ⟨.hbm, 262, rfl⟩
abbrev main_call11_v10 : Ref sig .tc := ⟨.hbm, 263, rfl⟩
abbrev main_v138 : Ref sig .tc := ⟨.hbm, 264, rfl⟩
abbrev main_v139 : Ref sig .tc := ⟨.hbm, 265, rfl⟩
abbrev main_call12_c : Ref sig .tc := ⟨.hbm, 266, rfl⟩
abbrev main_call12_v0 : Ref sig .tc := ⟨.hbm, 267, rfl⟩
abbrev main_call12_v1 : Ref sig .tc := ⟨.hbm, 268, rfl⟩
abbrev main_call12_c_0 : Ref sig .tc := ⟨.hbm, 269, rfl⟩
abbrev main_call12_v2 : Ref sig .tc := ⟨.hbm, 270, rfl⟩
abbrev main_call12_v3 : Ref sig .tc := ⟨.hbm, 271, rfl⟩
abbrev main_call12_v4 : Ref sig .tc := ⟨.hbm, 272, rfl⟩
abbrev main_call12_v5 : Ref sig .tc := ⟨.hbm, 273, rfl⟩
abbrev main_call12_c_1 : Ref sig .tc := ⟨.hbm, 274, rfl⟩
abbrev main_call12_c_2 : Ref sig .tc := ⟨.hbm, 275, rfl⟩
abbrev main_call12_v6 : Ref sig .tc := ⟨.hbm, 276, rfl⟩
abbrev main_call12_v7 : Ref sig .tc := ⟨.hbm, 277, rfl⟩
abbrev main_call12_v8 : Ref sig .tc := ⟨.hbm, 278, rfl⟩
abbrev main_call12_v9 : Ref sig .tc := ⟨.hbm, 279, rfl⟩
abbrev main_call12_v10 : Ref sig .tc := ⟨.hbm, 280, rfl⟩
abbrev main_call12_v11 : Ref sig .tc := ⟨.hbm, 281, rfl⟩
abbrev main_call12_c_3 : Ref sig .tc := ⟨.hbm, 282, rfl⟩
abbrev main_call12_v12 : Ref sig .tc := ⟨.hbm, 283, rfl⟩
abbrev main_call12_v13 : Ref sig .tc := ⟨.hbm, 284, rfl⟩
abbrev main_call12_cst : Ref sig .tc := ⟨.hbm, 285, rfl⟩
abbrev main_call12_v14 : Ref sig .tc := ⟨.hbm, 286, rfl⟩
abbrev main_v140 : Ref sig .tc := ⟨.hbm, 287, rfl⟩
abbrev main_cst_41 : Ref sig .tc := ⟨.hbm, 288, rfl⟩
abbrev main_v141 : Ref sig .tc := ⟨.hbm, 289, rfl⟩
abbrev main_cst_42 : Ref sig .tc := ⟨.hbm, 290, rfl⟩
abbrev main_v142 : Ref sig .tc := ⟨.hbm, 291, rfl⟩
abbrev main_v143 : Ref sig .tc := ⟨.hbm, 292, rfl⟩
abbrev main_cst_43 : Ref sig .tc := ⟨.hbm, 293, rfl⟩
abbrev main_v144 : Ref sig .tc := ⟨.hbm, 294, rfl⟩
abbrev main_v145 : Ref sig .tc := ⟨.hbm, 295, rfl⟩
abbrev main_values_44 : Ref sig .tc := ⟨.hbm, 296, rfl⟩
abbrev main_indices_45 : Ref sig .tc := ⟨.hbm, 297, rfl⟩
abbrev main_v146 : Ref sig .tc := ⟨.hbm, 298, rfl⟩
abbrev main_v147 : Ref sig .tc := ⟨.hbm, 299, rfl⟩
abbrev main_v148 : Ref sig .tc := ⟨.hbm, 300, rfl⟩
abbrev main_cst_46 : Ref sig .tc := ⟨.hbm, 301, rfl⟩
abbrev main_v149 : Ref sig .tc := ⟨.hbm, 302, rfl⟩
abbrev main_cst_47 : Ref sig .tc := ⟨.hbm, 303, rfl⟩
abbrev main_v150 : Ref sig .tc := ⟨.hbm, 304, rfl⟩
abbrev main_cst_48 : Ref sig .tc := ⟨.hbm, 305, rfl⟩
abbrev main_v151 : Ref sig .tc := ⟨.hbm, 306, rfl⟩
abbrev main_call13_v0 : Ref sig .tc := ⟨.hbm, 307, rfl⟩
abbrev main_call13_v1 : Ref sig .tc := ⟨.hbm, 308, rfl⟩
abbrev main_call13_v2 : Ref sig .tc := ⟨.hbm, 309, rfl⟩
abbrev main_call13_v3 : Ref sig .tc := ⟨.hbm, 310, rfl⟩
abbrev main_call13_v4 : Ref sig .tc := ⟨.hbm, 311, rfl⟩
abbrev main_v152 : Ref sig .tc := ⟨.hbm, 312, rfl⟩
abbrev main_v153 : Ref sig .tc := ⟨.hbm, 313, rfl⟩
abbrev main_v154 : Ref sig .tc := ⟨.hbm, 314, rfl⟩
abbrev main_v155 : Ref sig .tc := ⟨.hbm, 315, rfl⟩
abbrev main_call14_v0 : Ref sig .tc := ⟨.hbm, 316, rfl⟩
abbrev main_call14_v1_0 : Ref sig .tc := ⟨.hbm, 317, rfl⟩
abbrev main_v156 : Ref sig .tc := ⟨.hbm, 318, rfl⟩
abbrev main_c_49 : Ref sig .tc := ⟨.hbm, 319, rfl⟩
abbrev main_v157 : Ref sig .tc := ⟨.hbm, 320, rfl⟩
abbrev main_v158 : Ref sig .tc := ⟨.hbm, 321, rfl⟩
abbrev main_c_50 : Ref sig .tc := ⟨.hbm, 322, rfl⟩
abbrev main_v159 : Ref sig .tc := ⟨.hbm, 323, rfl⟩
abbrev main_v160 : Ref sig .tc := ⟨.hbm, 324, rfl⟩
abbrev main_v161 : Ref sig .tc := ⟨.hbm, 325, rfl⟩
abbrev main_v162 : Ref sig .tc := ⟨.hbm, 326, rfl⟩
abbrev main_v163 : Ref sig .tc := ⟨.hbm, 327, rfl⟩
abbrev main_cst_51 : Ref sig .tc := ⟨.hbm, 328, rfl⟩
abbrev main_v164 : Ref sig .tc := ⟨.hbm, 329, rfl⟩
abbrev main_cst_52 : Ref sig .tc := ⟨.hbm, 330, rfl⟩
abbrev main_v165 : Ref sig .tc := ⟨.hbm, 331, rfl⟩
abbrev main_call15_call0_cst : Ref sig .tc := ⟨.hbm, 332, rfl⟩
abbrev main_call15_call0_v0 : Ref sig .tc := ⟨.hbm, 333, rfl⟩
abbrev main_v166 : Ref sig .tc := ⟨.hbm, 334, rfl⟩
abbrev main_cst_53 : Ref sig .tc := ⟨.hbm, 335, rfl⟩
abbrev main_v167 : Ref sig .tc := ⟨.hbm, 336, rfl⟩
abbrev main_v168 : Ref sig .tc := ⟨.hbm, 337, rfl⟩
abbrev main_call16_call0_cst : Ref sig .tc := ⟨.hbm, 338, rfl⟩
abbrev main_call16_call0_v0 : Ref sig .tc := ⟨.hbm, 339, rfl⟩
abbrev main_v169 : Ref sig .tc := ⟨.hbm, 340, rfl⟩
abbrev main_v170 : Ref sig .tc := ⟨.hbm, 341, rfl⟩
abbrev main_v171 : Ref sig .tc := ⟨.hbm, 342, rfl⟩
abbrev main_cst_54 : Ref sig .tc := ⟨.hbm, 343, rfl⟩
abbrev main_v172 : Ref sig .tc := ⟨.hbm, 344, rfl⟩
abbrev main_v173 : Ref sig .tc := ⟨.hbm, 345, rfl⟩
abbrev main_v174 : Ref sig .tc := ⟨.hbm, 346, rfl⟩
abbrev main_v175 : Ref sig .tc := ⟨.hbm, 347, rfl⟩
abbrev main_v176 : Ref sig .tc := ⟨.hbm, 348, rfl⟩
abbrev main_v177 : Ref sig .tc := ⟨.hbm, 349, rfl⟩
abbrev main_v178 : Ref sig .tc := ⟨.hbm, 350, rfl⟩
abbrev main_values_55 : Ref sig .tc := ⟨.hbm, 351, rfl⟩
abbrev main_indices_56 : Ref sig .tc := ⟨.hbm, 352, rfl⟩
abbrev main_v179 : Ref sig .tc := ⟨.hbm, 353, rfl⟩
abbrev main_c_57 : Ref sig .tc := ⟨.hbm, 354, rfl⟩
abbrev main_v180 : Ref sig .tc := ⟨.hbm, 355, rfl⟩
abbrev main_c_58 : Ref sig .tc := ⟨.hbm, 356, rfl⟩
abbrev main_v181 : Ref sig .tc := ⟨.hbm, 357, rfl⟩
abbrev main_v182 : Ref sig .tc := ⟨.hbm, 358, rfl⟩
abbrev main_v183 : Ref sig .tc := ⟨.hbm, 359, rfl⟩
abbrev main_v184 : Ref sig .tc := ⟨.hbm, 360, rfl⟩
abbrev main_v185 : Ref sig .tc := ⟨.hbm, 361, rfl⟩
abbrev main_c_59 : Ref sig .tc := ⟨.hbm, 362, rfl⟩
abbrev main_v186 : Ref sig .tc := ⟨.hbm, 363, rfl⟩
abbrev main_c_60 : Ref sig .tc := ⟨.hbm, 364, rfl⟩
abbrev main_v187 : Ref sig .tc := ⟨.hbm, 365, rfl⟩
abbrev main_v188 : Ref sig .tc := ⟨.hbm, 366, rfl⟩
abbrev main_v189 : Ref sig .tc := ⟨.hbm, 367, rfl⟩
abbrev main_v190 : Ref sig .tc := ⟨.hbm, 368, rfl⟩
abbrev main_v191 : Ref sig .tc := ⟨.hbm, 369, rfl⟩
abbrev main_cst_61 : Ref sig .tc := ⟨.hbm, 370, rfl⟩
abbrev main_v192 : Ref sig .tc := ⟨.hbm, 371, rfl⟩

abbrev nD : Nat := 1
abbrev τ : Topo := Topo.v7x

variable {F : FTy → Type} [FloatOps F]
-- ==== Proof.KBlock.lean ====
module

public import proofs.«01_k».proof.Proof.Gen.KernelIdeal.Frame
public import Idealize.ShloMosaic.Lib.Pipeline.Value
public import Idealize.ShloMosaic.Lib.StableHlo.Run
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

variable {F : FTy → Type} [FloatOps F]

theorem zeros2 : (![0, 0] : Fin 2 → Nat) = fun _ => 0 := funext fun a => by fin_cases a <;> rfl
theorem zeros3 : (![0, 0, 0] : Fin 3 → Nat) = fun _ => 0 := funext fun a => by fin_cases a <;> rfl

/-- The lower ends of the 128 rows' bisection intervals after its trips. -/
def lows (x : Vec F S128x64 .f32) (cs : Vec F S64x5000 .f32) (y : Vec F S1x1x128 .i32) : FVec F S128 .f32 :=
  (Scf.fold (fun (_ : Fin k0_t1_loop.trips) (a : FVec F S128 .f32 × FVec F S128 .f32) =>
      (k0_pay12 (k0_pay3 x cs) k0_pay5 (k0_pay6 y) a.1 a.2, k0_pay13 (k0_pay3 x cs) k0_pay5 (k0_pay6 y) a.1 a.2))
    (k0_pay8, k0_pay9)).1

/-- The class probabilities of a block of 128 rows. -/
def probs (x : Vec F S128x64 .f32) (cs : Vec F S64x5000 .f32) (y : Vec F S1x1x128 .i32) : FVec F S128x1000 .f32 :=
  k0_pay14 (k0_pay3 x cs) k0_pay5 (k0_pay6 y) (lows x cs y)

/-- The clipped squares of the sines, before their upper clip. -/
def sines (x : Vec F S128x64 .f32) (cs : Vec F S64x5000 .f32) (y : Vec F S1x1x128 .i32) : FVec F S128x1000 .f32 :=
  k0_pay16 (k0_pay3 x cs) k0_pay5 (k0_pay6 y) (lows x cs y)

/-- What a block of 128 rows makes of the accumulator `o`. -/
def stepMain (x : Vec F S128x64 .f32) (cs : Vec F S64x5000 .f32) (y : Vec F S1x1x128 .i32) (o : Vec F S1x128 .f32) :
    FVec F S1x128 .f32 :=
  k0_pay2 (k0_pay19 (probs x cs y) (k0_pay15 (F := F) (k0_pay4 y)) (FloatOps.ofBits FTy.f32 0x3F800000#32) (sines x cs y))
    (k0_pay20 (probs x cs y) (k0_pay15 (F := F) (k0_pay4 y)) (FloatOps.ofBits FTy.f32 0x3F800000#32) (sines x cs y))
    (k0_pay21 (probs x cs y) (k0_pay15 (F := F) (k0_pay4 y)) (FloatOps.ofBits FTy.f32 0x3F800000#32) (sines x cs y))
    k0_pay22 o

/-- What a block of 200 columns makes of the accumulator `o` of the regulariser. -/
def stepReg (g : BitVec 32) (x : Vec F S200x64 .f32) (cs : Vec F S64x5000 .f32) (o : Vec F S1x128 .f32) : FVec F S1x128 .f32 :=
  k1_pay2 (k1_pay3 x cs) (k1_pay4 (F := F) g (iota .tc S200x1000 32 [0] iota_S200x1000_d0_w32) 200#32)
    (k1_pay5 g (k1_pay3 x cs) (iota .tc S200x1000 32 [0] iota_S200x1000_d0_w32) 200#32) (k1_pay6 (F := F)) o

/-- A later point of the main call leaves its update of what the point before left. -/
theorem out0_B (c : Dev nD) (i : grid0.Coords) (a1 : Memref sig .tc .vmem S128x64 .f32) (h1 : a1.IsWhole)
    (a2 : Memref sig .tc .vmem S64x5000 .f32) (h2 : a2.IsWhole) (a3 : Memref sig .tc .vmem S1x1x128 .i32) (h3 : a3.IsWhole)
    (a4 : Memref sig .tc .vmem S1x128 .f32) (h4 : a4.IsWhole) (hc : ¬cond0_0 i)
    (x : Vec F S128x64 .f32) (cs : Vec F S64x5000 .f32) (y : Vec F S1x1x128 .i32) (o : Vec F S1x128 .f32) :
    out0_B_3 c i a1 h1 a2 h2 a3 h3 a4 h4 hc x cs y o = stepMain x cs y o := by
  unfold out0_B_3
  rw [View.read_writes_eq_canon _ _ _ (cover0_B_3 c i a1 h1 a2 h2 a3 h3 a4 h4 hc x cs y o)]
  unfold kernelRun0_B
  dsimp only
  sl_unfold_words
  rw [View.canon_unit_zero zeros2]
  simp only [View.readAt_eq_ld, h1.read_unread, h2.read_unread, h3.read_unread, h4.read_unread,
    View.ld_unit_zero (S := S1x128) zeros2, View.ld_unit_zero (S := S128x64) zeros2,
    View.ld_unit_zero (S := S64x5000) zeros2, View.ld_unit_zero (S := S1x1x128) zeros3]
  rfl

/-- The first point of the main call leaves its update of the zero block. -/
theorem out0_A (c : Dev nD) (i : grid0.Coords) (a1 : Memref sig .tc .vmem S128x64 .f32) (h1 : a1.IsWhole)
    (a2 : Memref sig .tc .vmem S64x5000 .f32) (h2 : a2.IsWhole) (a3 : Memref sig .tc .vmem S1x1x128 .i32) (h3 : a3.IsWhole)
    (a4 : Memref sig .tc .vmem S1x128 .f32) (h4 : a4.IsWhole) (hc : cond0_0 i)
    (x : Vec F S128x64 .f32) (cs : Vec F S64x5000 .f32) (y : Vec F S1x1x128 .i32) :
    out0_A_3 c i a1 h1 a2 h2 a3 h3 a4 h4 hc x cs y = stepMain x cs y k0_pay1 := by
  unfold out0_A_3
  rw [View.read_writes_eq_canon _ _ _ (cover0_A_3 c i a1 h1 a2 h2 a3 h3 a4 h4 hc x cs y)]
  unfold kernelRun0_A
  dsimp only
  sl_unfold_words
  rw [View.canon_cons_unit_zero (S := S1x128) zeros2, View.readCov_unit_zero (S := S1x128) _ zeros2]
  simp only [View.readAt_eq_ld, h1.read_unread, h2.read_unread, h3.read_unread,
    View.ld_unit_zero (S := S1x128) zeros2, View.ld_unit_zero (S := S128x64) zeros2,
    View.ld_unit_zero (S := S64x5000) zeros2, View.ld_unit_zero (S := S1x1x128) zeros3]
  rfl

/-- A later point of the regulariser's call leaves its update of what the point before left. -/
theorem out1_B (c : Dev nD) (i : grid1.Coords) (a1 : Memref sig .tc .vmem S200x64 .f32) (h1 : a1.IsWhole)
    (a2 : Memref sig .tc .vmem S64x5000 .f32) (h2 : a2.IsWhole)
    (a3 : Memref sig .tc .vmem S1x128 .f32) (h3 : a3.IsWhole) (hc : ¬cond1_0 i)
    (x : Vec F S200x64 .f32) (cs : Vec F S64x5000 .f32) (o : Vec F S1x128 .f32) :
    out1_B_2 c i a1 h1 a2 h2 a3 h3 hc x cs o = stepReg (BitVec.ofNat 32 (i 0).val) x cs o := by
  unfold out1_B_2
  rw [View.read_writes_eq_canon _ _ _ (cover1_B_2 c i a1 h1 a2 h2 a3 h3 hc x cs o)]
  unfold kernelRun1_B
  dsimp only
  sl_unfold_words
  rw [View.canon_unit_zero zeros2]
  simp only [View.readAt_eq_ld, h1.read_unread, h2.read_unread, h3.read_unread,
    View.ld_unit_zero (S := S1x128) zeros2, View.ld_unit_zero (S := S200x64) zeros2,
    View.ld_unit_zero (S := S64x5000) zeros2]
  rfl

/-- The first point of the regulariser's call leaves its update of the zero block. -/
theorem out1_A (c : Dev nD) (i : grid1.Coords) (a1 : Memref sig .tc .vmem S200x64 .f32) (h1 : a1.IsWhole)
    (a2 : Memref sig .tc .vmem S64x5000 .f32) (h2 : a2.IsWhole)
    (a3 : Memref sig .tc .vmem S1x128 .f32) (h3 : a3.IsWhole) (hc : cond1_0 i)
    (x : Vec F S200x64 .f32) (cs : Vec F S64x5000 .f32) :
    out1_A_2 c i a1 h1 a2 h2 a3 h3 hc x cs = stepReg (BitVec.ofNat 32 (i 0).val) x cs k1_pay1 := by
  unfold out1_A_2
  rw [View.read_writes_eq_canon _ _ _ (cover1_A_2 c i a1 h1 a2 h2 a3 h3 hc x cs)]
  unfold kernelRun1_A
  dsimp only
  sl_unfold_words
  rw [View.canon_cons_unit_zero (S := S1x128) zeros2, View.readCov_unit_zero (S := S1x128) _ zeros2]
  simp only [View.readAt_eq_ld, h1.read_unread, h2.read_unread,
    View.ld_unit_zero (S := S1x128) zeros2, View.ld_unit_zero (S := S200x64) zeros2,
    View.ld_unit_zero (S := S64x5000) zeros2]
  rfl

section Runs

variable (V : (c : Dev nD) → (b : Ref sig .tc) → Buf (Elt F) ((c : Thread nD τ).loc b))

/-- The main call's accumulator after `n` blocks. -/
def accMain (c : Dev nD) : ℕ → Vec F S1x128 .f32
  | 0 => k0_pay1
  | n + 1 => if h : n < cfg0.N then stepMain (iblk0 V c 0 ⟨n, h⟩) (iblk0 V c 1 ⟨n, h⟩) (iblk0 V c 2 ⟨n, h⟩) (accMain c n)
      else accMain c n

/-- The regulariser call's accumulator after `n` blocks. -/
def accReg (c : Dev nD) : ℕ → Vec F S1x128 .f32
  | 0 => k1_pay1
  | n + 1 => if h : n < cfg1.N then
        stepReg (BitVec.ofNat 32 (grid1.coords ⟨n, h⟩ 0).val) (iblk1 V c 0 ⟨n, h⟩) (iblk1 V c 1 ⟨n, h⟩) (accReg c n)
      else accReg c n

/-- After point `n` the main call's output buffer holds the accumulator of `n + 1` blocks. -/
theorem outsAt0_eq (c : Dev nD) : ∀ (n : ℕ) (h : n < cfg0.N), outsAt0 V c n h = accMain V c (n + 1)
  | 0, h => by
    rw [accMain, dif_pos h]
    exact (outsAt0_A V c ⟨0, h⟩ rfl).trans (out0_A ..)
  | n + 1, h => by
    have hN : cfg0.N = 32 := N_0
    have hB : ¬(⟨n + 1, h⟩ : Fin cfg0.N).val % 32 = 0 := by dsimp only; omega
    rw [accMain, dif_pos h, ← outsAt0_eq c n (Nat.lt_of_succ_lt h)]
    exact (outsAt0_B V c ⟨n + 1, h⟩ hB).trans (out0_B ..)

/-- After point `n` the regulariser call's output buffer holds the accumulator of `n + 1` blocks. -/
theorem outsAt1_eq (c : Dev nD) : ∀ (n : ℕ) (h : n < cfg1.N), outsAt1 V c n h = accReg V c (n + 1)
  | 0, h => by
    rw [accReg, dif_pos h]
    exact (outsAt1_A V c ⟨0, h⟩ rfl).trans (out1_A ..)
  | n + 1, h => by
    have hN : cfg1.N = 25 := N_1
    have hB : ¬(⟨n + 1, h⟩ : Fin cfg1.N).val % 25 = 0 := by dsimp only; omega
    rw [accReg, dif_pos h, ← outsAt1_eq c n (Nat.lt_of_succ_lt h)]
    exact (outsAt1_B V c ⟨n + 1, h⟩ hB).trans (out1_B ..)

end Runs

end Cert.KernelIdeal.Value
-- ==== Proof.KRun.lean ====
module

public import proofs.«01_k».proof.Proof.KBlock

@[expose] public section

set_option maxRecDepth 16384

noncomputable section

namespace Cert.KernelIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the kernel: its result buffers end at the last boundary's contents, the arguments as launched. -/
theorem run_W4 : θ_run defs (onTc (τ := τ) (main (F := F))) ⟨m, fun _ => 0, ρ⟩ (fun r => ∀ c : Dev nD,
      r.2.mem ((c.tc : Thread nD τ).loc main_v14) = W4 m ρ c (Proc.devRef .tc main_v14)
      ∧ r.2.mem ((c.tc : Thread nD τ).loc main_v18) = W4 m ρ c (Proc.devRef .tc main_v18)
      ∧ r.2.mem ((c.tc : Thread nD τ).loc main_v22) = W4 m ρ c (Proc.devRef .tc main_v22)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => fun c =>
      ⟨h c _ (mem_uc main_v14 (by decide)), h c _ (mem_uc main_v18 (by decide)), h c _ (mem_uc main_v22 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c)⟩)

/-- The first call's result array ends at the accumulator of all 32 blocks. -/
theorem final0 (c : Dev nD) : (dat0 (V1 m ρ) c).arrAt 3 cfg0.N = accMain (V1 m ρ) c 32 := by
  have hN : cfg0.N = 32 := N_0
  have hl : 31 < cfg0.N := by rw [hN]; decide
  refine (dat0 (V1 m ρ) c).arrAt_eq_of_cover 3 (accMain (V1 m ρ) c 32) (fun t hf => ?_) fun i =>
    ⟨⟨31, hl⟩, (flush0_3 _).mpr rfl, ?_⟩
  · have h3 : t.val = 31 := by have := (flush0_3 t).mp hf; have := t.isLt; omega
    show (cfg0.win 3).cut (grid0.coords t) ((dat0 (V1 m ρ) c).after 3 t) = _
    rw [after0_3, outsAt0_eq, h3]
    have hz' : (fun a => win0_3.index t a * main_v5.ty.shape.size a) = fun _ => 0 := by
      revert t; decide +kernel
    exact (Memref.read_access_unit_zero (Elt F) main_v5 hz' (fun a => by rw [congrFun hz' a]; simp) (accMain (V1 m ρ) c 32)).symm
  · show i ∈ ((View.whole main_v5).slice (win0_3.rect ⟨31, hl⟩)).set
    rw [View.set_slice_whole, Rect.mem_set_unit]
    intro a
    have h0 : (i 0 : Nat) < 1 := (i 0).isLt
    have h1 : (i 1 : Nat) < 128 := (i 1).isLt
    match a with
    | ⟨0, _⟩ =>
      show win0_3.index ⟨31, hl⟩ 0 * win0_3.size 0 ≤ (i 0 : Nat) ∧ (i 0 : Nat) < win0_3.index ⟨31, hl⟩ 0 * win0_3.size 0 + win0_3.xsize (grid0.coords ⟨31, hl⟩) 0
      rw [show win0_3.index ⟨31, hl⟩ 0 * win0_3.size 0 = 0 from by decide +kernel +revert, show win0_3.xsize (grid0.coords ⟨31, hl⟩) 0 = 1 from by decide +kernel +revert]; omega
    | ⟨1, _⟩ =>
      show win0_3.index ⟨31, hl⟩ 1 * win0_3.size 1 ≤ (i 1 : Nat) ∧ (i 1 : Nat) < win0_3.index ⟨31, hl⟩ 1 * win0_3.size 1 + win0_3.xsize (grid0.coords ⟨31, hl⟩) 1
      rw [show win0_3.index ⟨31, hl⟩ 1 * win0_3.size 1 = 0 from by decide +kernel +revert, show win0_3.xsize (grid0.coords ⟨31, hl⟩) 1 = 128 from by decide +kernel +revert]; omega

/-- The second call's result array ends at the accumulator of all 25 blocks. -/
theorem final1 (c : Dev nD) : (dat1 (V2 m ρ) c).arrAt 2 cfg1.N = accReg (V2 m ρ) c 25 := by
  have hN : cfg1.N = 25 := N_1
  have hl : 24 < cfg1.N := by rw [hN]; decide
  refine (dat1 (V2 m ρ) c).arrAt_eq_of_cover 2 (accReg (V2 m ρ) c 25) (fun t hf => ?_) fun i =>
    ⟨⟨24, hl⟩, (flush1_2 _).mpr rfl, ?_⟩
  · have h3 : t.val = 24 := by have := (flush1_2 t).mp hf; have := t.isLt; omega
    show (cfg1.win 2).cut (grid1.coords t) ((dat1 (V2 m ρ) c).after 2 t) = _
    rw [after1_2, outsAt1_eq, h3]
    have hz' : (fun a => win1_2.index t a * main_v6.ty.shape.size a) = fun _ => 0 := by
      revert t; decide +kernel
    exact (Memref.read_access_unit_zero (Elt F) main_v6 hz' (fun a => by rw [congrFun hz' a]; simp) (accReg (V2 m ρ) c 25)).symm
  · show i ∈ ((View.whole main_v6).slice (win1_2.rect ⟨24, hl⟩)).set
    rw [View.set_slice_whole, Rect.mem_set_unit]
    intro a
    have h0 : (i 0 : Nat) < 1 := (i 0).isLt
    have h1 : (i 1 : Nat) < 128 := (i 1).isLt
    match a with
    | ⟨0, _⟩ =>
      show win1_2.index ⟨24, hl⟩ 0 * win1_2.size 0 ≤ (i 0 : Nat) ∧ (i 0 : Nat) < win1_2.index ⟨24, hl⟩ 0 * win1_2.size 0 + win1_2.xsize (grid1.coords ⟨24, hl⟩) 0
      rw [show win1_2.index ⟨24, hl⟩ 0 * win1_2.size 0 = 0 from by decide +kernel +revert, show win1_2.xsize (grid1.coords ⟨24, hl⟩) 0 = 1 from by decide +kernel +revert]; omega
    | ⟨1, _⟩ =>
      show win1_2.index ⟨24, hl⟩ 1 * win1_2.size 1 ≤ (i 1 : Nat) ∧ (i 1 : Nat) < win1_2.index ⟨24, hl⟩ 1 * win1_2.size 1 + win1_2.xsize (grid1.coords ⟨24, hl⟩) 1
      rw [show win1_2.index ⟨24, hl⟩ 1 * win1_2.size 1 = 0 from by decide +kernel +revert, show win1_2.xsize (grid1.coords ⟨24, hl⟩) 1 = 128 from by decide +kernel +revert]; omega

/-- What @main makes of the two calls' accumulators. -/
def tail (a b : Vec F S1x128 .f32) : FVec F S_ .f32 :=
  addf (Host.divf (shapeCast S_ (extractStridedSlice S1x1 ![0, 0] a slices_S1x128_S1x1_0_0) shapeCasts_S1x1_S_)
      (constant S_ .f32 0x45800000#32))
    (mulf (constant S_ .f32 0x3CF5C28F#32)
      (Host.divf (shapeCast S_ (extractStridedSlice S1x1 ![0, 0] b slices_S1x128_S1x1_0_0) shapeCasts_S1x1_S_)
        (constant S_ .f32 0x459C4000#32)))

/-- The result buffer at the last boundary: the host operations over the two calls' accumulators. -/
theorem W4_result (c : Dev nD) : (W4 m ρ c (Proc.devRef .tc main_v14) : FVec F S_ .f32)
    = tail (accMain (V1 m ρ) c 32) (accReg (V2 m ρ) c 25) := by
  have h5 : (W3 m ρ c (Proc.devRef .tc main_v5) : Vec F S1x128 .f32) = accMain (V1 m ρ) c 32 :=
    (W3_of m ρ c main_v5 (by decide +kernel)).trans ((W2_arr m ρ c 3).trans (final0 m ρ c))
  have h6 : (W3 m ρ c (Proc.devRef .tc main_v6) : Vec F S1x128 .f32) = accReg (V2 m ρ) c 25 :=
    (W3_arr m ρ c 2).trans (final1 m ρ c)
  unfold W4 tail
  rw [← h5, ← h6]
  dsimp only [hostOps2]
  after_results
  rfl

/-- What @main makes of the first call's second lane. -/
def share (a : Vec F S1x128 .f32) : FVec F S_ .f32 :=
  mulf (Host.divf (shapeCast S_ (extractStridedSlice S1x1 ![0, 1] a slices_S1x128_S1x1_0_1) shapeCasts_S1x1_S_)
    (constant S_ .f32 0x45800000#32)) (constant S_ .f32 0x42C80000#32)

/-- The second result buffer at the last boundary. -/
theorem W4_second (c : Dev nD) : (W4 m ρ c (Proc.devRef .tc main_v18) : FVec F S_ .f32) = share (accMain (V1 m ρ) c 32) := by
  have h5 : (W3 m ρ c (Proc.devRef .tc main_v5) : Vec F S1x128 .f32) = accMain (V1 m ρ) c 32 :=
    (W3_of m ρ c main_v5 (by decide +kernel)).trans ((W2_arr m ρ c 3).trans (final0 m ρ c))
  unfold W4 share
  rw [← h5]
  dsimp only [hostOps2]
  after_results
  rfl

/-- What @main makes of the first call's third lane. -/
def rest (a : Vec F S1x128 .f32) : FVec F S_ .f32 :=
  subf (constant S_ .f32 0x3F800000#32)
    (Host.divf (shapeCast S_ (extractStridedSlice S1x1 ![0, 2] a slices_S1x128_S1x1_0_2) shapeCasts_S1x1_S_) (constant S_ .f32 0x45800000#32))

/-- The third result buffer at the last boundary. -/
theorem W4_third (c : Dev nD) : (W4 m ρ c (Proc.devRef .tc main_v22) : FVec F S_ .f32) = rest (accMain (V1 m ρ) c 32) := by
  have h5 : (W3 m ρ c (Proc.devRef .tc main_v5) : Vec F S1x128 .f32) = accMain (V1 m ρ) c 32 :=
    (W3_of m ρ c main_v5 (by decide +kernel)).trans ((W2_arr m ρ c 3).trans (final0 m ρ c))
  unfold W4 rest
  rw [← h5]
  dsimp only [hostOps2]
  after_results
  rfl

end Cert.KernelIdeal.Value
-- ==== Proof.Spec.lean ====
/- The mathematics both programs compute, over the extended reals: normalised vectors and their products, the masked
   softmax, the angular margin, the two spellings of the cross entropy of one row; and that all of it is real. -/
module

public import Idealize.ShloMosaic.Lib.Pointwise
public import Idealize.ShloMosaic.PureOps.Ideal

@[expose] public section

noncomputable section

open Idealize.ShloMosaic

namespace Cert.Spec

/-- The number 1e-12 as printed. -/
abbrev tiny : EReal := Ideal.ofBits .f32 0x2B8CBCCC#32
/-- The number 1e-8 as printed. -/
abbrev small : EReal := Ideal.ofBits .f32 0x322BCC77#32
/-- The cosine of the margin as printed. -/
abbrev cosM : EReal := Ideal.ofBits .f32 0x3F7FFCB9#32
/-- The sine of the margin as printed. -/
abbrev sinM : EReal := Ideal.ofBits .f32 0x3C23D657#32
/-- The threshold of the margin as printed. -/
abbrev thr : EReal := Ideal.ofBits .f32 0xBF7FFCB9#32
/-- The linear continuation's offset as printed. -/
abbrev off : EReal := Ideal.ofBits .f32 0x38D1B632#32
/-- The scale 15 as printed. -/
abbrev scale : EReal := Ideal.ofBits .f32 0x41700000#32

/-- The clipped length of a vector. -/
def len {n : ℕ} (v : Fin n → EReal) : EReal := max tiny (Ideal.sqrt (∑ d, v d * v d))

/-- A vector divided by its clipped length. -/
def dir {n : ℕ} (v : Fin n → EReal) (d : Fin n) : EReal := Ideal.div (v d) (len v)

/-- The product of two normalised vectors. -/
def sim {n : ℕ} (v w : Fin n → EReal) : EReal := ∑ d, dir v d * dir w d

/-- One where the proposition holds, zero elsewhere. -/
def bit (p : Prop) [Decidable p] : EReal := if p then 1 else 0

/-- The exponential of a logit, zero for a zero logit. -/
def expd (l : EReal) : EReal := Ideal.exp l * (1 - bit (l = 0))

/-- The masked softmax. -/
def prob {n : ℕ} (L : Fin n → EReal) (c : Fin n) : EReal := Ideal.div (expd (L c)) (small + ∑ x, expd (L x))

/-- The angular margin at the label, the identity elsewhere, scaled. -/
def arc (p t : EReal) : EReal :=
  (t * (if 0 < p - thr then p * cosM - Ideal.sqrt (min 1 (max 0 (1 - p * p))) * sinM else p - off) + (1 - t) * p) * scale

/-- The scores of a row with logits `L` and label word `w`. -/
def scores {n : ℕ} (L : Fin n → EReal) (w : BitVec 32) (c : Fin n) : EReal :=
  arc (prob L c) (bit (BitVec.ofNat 32 c.val = w))

/-- The greatest score. -/
def top {n : ℕ} (o : Fin n → EReal) : EReal := Finset.univ.fold max (⊥ : EReal) o

/-- The row's loss as the kernel spells it. -/
def lossK {n : ℕ} (o : Fin n → EReal) (w : BitVec 32) : EReal :=
  Ideal.log (∑ x, Ideal.exp (o x - top o)) + top o - ∑ x : Fin n, bit (BitVec.ofNat 32 x.val = w) * o x

/-- One where the label's score is at least the greatest. -/
def wins {n : ℕ} (o : Fin n → EReal) (w : BitVec 32) : EReal :=
  bit (top o ≤ ∑ x : Fin n, bit (BitVec.ofNat 32 x.val = w) * o x)

/-- One where the label's score is positive. -/
def pos {n : ℕ} (o : Fin n → EReal) (w : BitVec 32) : EReal :=
  bit (0 < ∑ x : Fin n, bit (BitVec.ofNat 32 x.val = w) * o x)

/-- The row's log-probability at `t` as the reference spells it. -/
def logp {n : ℕ} (o : Fin n → EReal) (t : Fin n) : EReal :=
  (o t - top o) - Ideal.log (∑ x, Ideal.exp (o x - top o))

/-- One trip of the bisection for the 500th largest entry of `s`: the midpoint becomes the lower end when at least 500
    entries exceed it, the upper end otherwise. -/
def half {n : ℕ} (s : Fin n → EReal) (a : EReal × EReal) : EReal × EReal :=
  if Ideal.ofBits .f32 0x43FA0000#32 ≤ ∑ j, bit (Ideal.ofBits .f32 0x3F000000#32 * (a.1 + a.2) < s j)
  then (Ideal.ofBits .f32 0x3F000000#32 * (a.1 + a.2), a.2) else (a.1, Ideal.ofBits .f32 0x3F000000#32 * (a.1 + a.2))

/-- The bisection's interval after `k` trips from -1.01 and 2.01. -/
def bisect {n : ℕ} (s : Fin n → EReal) (k : ℕ) : EReal × EReal :=
  (half s)^[k] (Ideal.ofBits .f32 0xBF8147AE#32, Ideal.ofBits .f32 0x4000A3D7#32)

/-- The sum of the five columns of a class, the classes' columns lying 1000 apart. -/
def pool (g : Fin 5000 → EReal) (c : Fin 1000) : EReal :=
  g ⟨c.val, by omega⟩ + g ⟨1000 + c.val, by omega⟩ + g ⟨2000 + c.val, by omega⟩ + g ⟨3000 + c.val, by omega⟩
    + g ⟨4000 + c.val, by omega⟩

/-! ## Everything is real -/

/-- An extended real that is a real number. -/
def IsR (x : EReal) : Prop := ∃ r : ℝ, x = (r : EReal)

theorem IsR.coe (r : ℝ) : IsR (r : EReal) := ⟨r, rfl⟩
theorem IsR.zero : IsR 0 := ⟨0, rfl⟩
theorem IsR.one : IsR 1 := ⟨1, rfl⟩
theorem IsR.add {x y : EReal} : IsR x → IsR y → IsR (x + y)
  | ⟨a, ha⟩, ⟨b, hb⟩ => ⟨a + b, by rw [ha, hb, EReal.coe_add]⟩
theorem IsR.sub {x y : EReal} : IsR x → IsR y → IsR (x - y)
  | ⟨a, ha⟩, ⟨b, hb⟩ => ⟨a - b, by rw [ha, hb, EReal.coe_sub]⟩
theorem IsR.mul {x y : EReal} : IsR x → IsR y → IsR (x * y)
  | ⟨a, ha⟩, ⟨b, hb⟩ => ⟨a * b, by rw [ha, hb, EReal.coe_mul]⟩
theorem IsR.max {x y : EReal} (hx : IsR x) (hy : IsR y) : IsR (max x y) := by
  rcases max_choice x y with h | h <;> rw [h] <;> assumption
theorem IsR.min {x y : EReal} (hx : IsR x) (hy : IsR y) : IsR (min x y) := by
  rcases min_choice x y with h | h <;> rw [h] <;> assumption
theorem IsR.ite {p : Prop} [Decidable p] {x y : EReal} (hx : IsR x) (hy : IsR y) : IsR (if p then x else y) := by
  split <;> assumption
theorem IsR.sum {ι : Type} {s : Finset ι} {f : ι → EReal} (h : ∀ i ∈ s, IsR (f i)) : IsR (∑ i ∈ s, f i) := by
  classical
  induction s using Finset.induction_on with
  | empty => exact IsR.zero
  | insert a s ha ih =>
    rw [Finset.sum_insert ha]
    exact (h a (Finset.mem_insert_self a s)).add (ih fun i hi => h i (Finset.mem_insert_of_mem hi))
theorem IsR.exp {x : EReal} : IsR x → IsR (Ideal.exp x)
  | ⟨a, ha⟩ => ⟨Real.exp a, by rw [ha]; rfl⟩
theorem IsR.bit (p : Prop) [Decidable p] : IsR (bit p) := by unfold Spec.bit; exact IsR.one.ite IsR.zero
theorem IsR.sqrt {x : EReal} (h0 : 0 ≤ x) : IsR x → IsR (Ideal.sqrt x)
  | ⟨a, ha⟩ => ⟨Real.sqrt a, by
    subst ha
    rw [Ideal.sqrt_coe, if_neg (not_lt.mpr (EReal.coe_nonneg.mp h0))]⟩

/-- A real divided by a nonzero real is the real quotient. -/
theorem div_coe {a b : ℝ} (hb : b ≠ 0) : Ideal.div (a : EReal) (b : EReal) = ((a / b : ℝ) : EReal) := by
  unfold Ideal.div
  rw [if_neg (by exact_mod_cast hb), ← EReal.coe_inv, ← EReal.coe_mul, div_eq_mul_inv]

theorem IsR.div {x y : EReal} (hx : IsR x) (hy : IsR y) (h0 : y ≠ 0) : IsR (Ideal.div x y) := by
  obtain ⟨a, rfl⟩ := hx
  obtain ⟨b, rfl⟩ := hy
  exact ⟨a / b, div_coe (by exact_mod_cast h0)⟩

theorem IsR.log {x : EReal} (h0 : 0 < x) : IsR x → IsR (Ideal.log x)
  | ⟨a, ha⟩ => ⟨Real.log a, by
    subst ha
    rw [Ideal.log_coe, if_neg (not_le.mpr (EReal.coe_pos.mp h0))]⟩

/-- A pattern of binary32 whose exponent is not all ones denotes a real. -/
theorem IsR.ofBits (b : BitVec 32) (h : (b.extractLsb' 23 8).toNat ≠ 255) : IsR (Ideal.ofBits .f32 b) := by
  unfold Ideal.ofBits Ideal.ieee
  dsimp only
  rw [if_neg (by norm_num; exact h)]
  split
  · exact IsR.coe _
  · exact IsR.coe _

theorem isR_cosM : IsR cosM := IsR.ofBits _ (by decide)
theorem isR_sinM : IsR sinM := IsR.ofBits _ (by decide)
theorem isR_thr : IsR thr := IsR.ofBits _ (by decide)
theorem isR_off : IsR off := IsR.ofBits _ (by decide)
theorem isR_scale : IsR scale := IsR.ofBits _ (by decide)
theorem isR_small : IsR small := IsR.ofBits _ (by decide)
theorem isR_tiny : IsR tiny := IsR.ofBits _ (by decide)

/-- A positive normal pattern of binary32 denotes its significand times its power of two. -/
theorem ofBits_pos {b : BitVec 32} (e f : ℕ) (hs : b.extractLsb' 31 1 = 0#1) (he : (b.extractLsb' 23 8).toNat = e)
    (hf : (b.extractLsb' 0 23).toNat = f) (h0 : e ≠ 0) (h1 : e ≠ 255) :
    Ideal.ofBits .f32 b = (((8388608 + f : ℕ) * (2 : ℝ) ^ ((e : ℤ) - 150) : ℝ) : EReal) := by
  unfold Ideal.ofBits Ideal.ieee
  simp only [Nat.reduceAdd, Nat.reducePow, Nat.add_one_sub_one, Nat.reduceSub, hs, he, hf, h0, h1, if_false]
  congr 1
  have h : (e : ℤ) - 127 - 23 = e - 150 := by ring
  norm_num [h]
  try ring

/-- A negative normal pattern of binary32 denotes minus its significand times its power of two. -/
theorem ofBits_neg {b : BitVec 32} (e f : ℕ) (hs : b.extractLsb' 31 1 = 1#1) (he : (b.extractLsb' 23 8).toNat = e)
    (hf : (b.extractLsb' 0 23).toNat = f) (h0 : e ≠ 0) (h1 : e ≠ 255) :
    Ideal.ofBits .f32 b = ((-((8388608 + f : ℕ) * (2 : ℝ) ^ ((e : ℤ) - 150)) : ℝ) : EReal) := by
  unfold Ideal.ofBits Ideal.ieee
  simp only [Nat.reduceAdd, Nat.reducePow, Nat.add_one_sub_one, Nat.reduceSub, hs, he, hf, h0, h1, if_false]
  congr 1
  have h : (e : ℤ) - 127 - 23 = e - 150 := by ring
  norm_num [h]
  try ring

theorem small_pos : 0 < small := by
  rw [show small = _ from ofBits_pos (b := 0x322BCC77#32) 100 2870391 (by decide) (by decide) (by decide) (by decide) (by decide)]
  exact EReal.coe_pos.mpr (by positivity)
theorem tiny_pos : 0 < tiny := by
  rw [show tiny = _ from ofBits_pos (b := 0x2B8CBCCC#32) 87 834764 (by decide) (by decide) (by decide) (by decide) (by decide)]
  exact EReal.coe_pos.mpr (by positivity)

theorem bit_cases (p : Prop) [Decidable p] : bit p = 1 ∨ bit p = 0 := by
  unfold bit; split
  · exact .inl rfl
  · exact .inr rfl

theorem sq_nonneg' (x : EReal) : 0 ≤ x * x := by
  induction x with
  | bot => simp
  | top => simp
  | coe r => exact_mod_cast mul_self_nonneg r

theorem exp_nonneg (x : EReal) : 0 ≤ Ideal.exp x := by
  induction x with
  | bot => simp
  | top => simp
  | coe r => rw [Ideal.exp_coe]; exact_mod_cast (Real.exp_pos r).le

/-- A normalised vector is real, and the sum of its squares is at most one: the entries of a vector with an infinite
    entry, divided by their infinite length, are zero. -/
theorem dir_real {n : ℕ} (v : Fin n → EReal) : ∃ u : Fin n → ℝ, (∀ d, dir v d = (u d : EReal)) ∧ ∑ d, u d * u d ≤ 1 := by
  classical
  by_cases h : ∀ d, IsR (v d)
  · choose a ha using h
    have hs : ∑ d, v d * v d = ((∑ d, a d * a d : ℝ) : EReal) := by
      rw [show (∑ d, v d * v d) = ∑ d, ((a d * a d : ℝ) : EReal) from
        Finset.sum_congr rfl fun d _ => by rw [ha d, EReal.coe_mul]]
      exact (map_sum (⟨⟨Real.toEReal, rfl⟩, EReal.coe_add⟩ : ℝ →+ EReal) _ _).symm
    have hs0 : 0 ≤ ∑ d, a d * a d := Finset.sum_nonneg fun d _ => mul_self_nonneg _
    obtain ⟨e, he⟩ := isR_tiny
    have hepos : 0 < e := by have := tiny_pos; rw [he] at this; exact_mod_cast this
    have hl : len v = ((max e (Real.sqrt (∑ d, a d * a d)) : ℝ) : EReal) := by
      unfold len
      rw [hs, Ideal.sqrt_coe, if_neg (not_lt.mpr hs0), he]
      exact (EReal.coe_strictMono.monotone.map_max).symm
    set l : ℝ := max e (Real.sqrt (∑ d, a d * a d)) with hldef
    have hlpos : 0 < l := lt_of_lt_of_le hepos (le_max_left _ _)
    refine ⟨fun d => a d / l, fun d => ?_, ?_⟩
    · unfold dir; rw [hl, ha d]; exact div_coe hlpos.ne'
    · have : ∀ d, a d / l * (a d / l) = (a d * a d) / (l * l) := fun d => by field_simp
      simp only [this]
      rw [← Finset.sum_div]
      rw [div_le_one (mul_pos hlpos hlpos)]
      have h2 : Real.sqrt (∑ d, a d * a d) ≤ l := le_max_right _ _
      calc ∑ d, a d * a d = Real.sqrt (∑ d, a d * a d) * Real.sqrt (∑ d, a d * a d) := (Real.mul_self_sqrt hs0).symm
        _ ≤ l * l := mul_self_le_mul_self (Real.sqrt_nonneg _) h2
  · push Not at h
    obtain ⟨d, hd⟩ := h
    have hsq : v d * v d = ⊤ := by
      induction hv : v d with
      | bot => simp
      | top => simp
      | coe r => exact absurd ⟨r, hv⟩ hd
    have htop : ∑ d, v d * v d = ⊤ := by
      refine top_le_iff.mp ?_
      rw [← hsq]
      exact Finset.single_le_sum (f := fun d => v d * v d) (fun i _ => sq_nonneg' (v i)) (Finset.mem_univ d)
    have hl : len v = ⊤ := by unfold len; rw [htop, Ideal.sqrt_top]; exact max_eq_right le_top
    refine ⟨fun _ => 0, fun d => ?_, by simp⟩
    unfold dir Ideal.div
    rw [hl, if_neg (by simp), EReal.inv_top, mul_zero]; rfl

/-- The product of two normalised vectors is a real of absolute value at most one. -/
theorem sim_real {n : ℕ} (v w : Fin n → EReal) : ∃ s : ℝ, sim v w = (s : EReal) ∧ |s| ≤ 1 := by
  obtain ⟨a, ha, ha1⟩ := dir_real v
  obtain ⟨b, hb, hb1⟩ := dir_real w
  refine ⟨∑ d, a d * b d, ?_, ?_⟩
  · unfold sim
    rw [show (∑ d, dir v d * dir w d) = ∑ d, ((a d * b d : ℝ) : EReal) from
      Finset.sum_congr rfl fun d _ => by rw [ha d, hb d, EReal.coe_mul]]
    exact (map_sum (⟨⟨Real.toEReal, rfl⟩, EReal.coe_add⟩ : ℝ →+ EReal) _ _).symm
  · have h := Finset.sum_mul_sq_le_sq_mul_sq Finset.univ a b
    have h1 : ∑ d, a d ^ 2 ≤ 1 := by simpa [sq] using ha1
    have h2 : ∑ d, b d ^ 2 ≤ 1 := by simpa [sq] using hb1
    have h3 : 0 ≤ ∑ d, b d ^ 2 := Finset.sum_nonneg fun d _ => sq_nonneg _
    have h4 : (∑ d, a d * b d) ^ 2 ≤ 1 := by nlinarith
    exact abs_le_one_iff_mul_self_le_one.mpr (by nlinarith)

theorem isR_sim {n : ℕ} (v w : Fin n → EReal) : IsR (sim v w) := let ⟨s, h, _⟩ := sim_real v w; ⟨s, h⟩

theorem expd_real {l : EReal} (h : IsR l) : IsR (expd l) := h.exp.mul (IsR.one.sub (IsR.bit _))

theorem expd_nonneg (l : EReal) : 0 ≤ expd l := by
  unfold expd
  refine mul_nonneg (exp_nonneg l) ?_
  rcases bit_cases (l = 0) with h | h <;> rw [h]
  · exact (EReal.sub_self (by decide) (by decide)).ge
  · simp

theorem prob_real {n : ℕ} {L : Fin n → EReal} (h : ∀ c, IsR (L c)) (c : Fin n) : IsR (prob L c) := by
  unfold prob
  refine (expd_real (h c)).div (isR_small.add (IsR.sum fun x _ => expd_real (h x))) (ne_of_gt ?_)
  have : 0 ≤ ∑ x, expd (L x) := Finset.sum_nonneg fun x _ => expd_nonneg _
  exact add_pos_of_pos_of_nonneg small_pos this

theorem arc_real {p t : EReal} (hp : IsR p) (ht : IsR t) : IsR (arc p t) := by
  unfold arc
  refine (IsR.add (ht.mul (IsR.ite ?_ (hp.sub isR_off))) ((IsR.one.sub ht).mul hp)).mul isR_scale
  refine (hp.mul isR_cosM).sub (IsR.mul (IsR.sqrt ?_ ?_) isR_sinM)
  · exact le_min zero_le_one (le_max_left _ _)
  · exact IsR.one.min (IsR.zero.max (IsR.one.sub (hp.mul hp)))

theorem scores_real {n : ℕ} {L : Fin n → EReal} (h : ∀ c, IsR (L c)) (w : BitVec 32) (c : Fin n) :
    IsR (scores L w c) := arc_real (prob_real h c) (IsR.bit _)

theorem fold_max_mem {ι : Type} (s : Finset ι) (hs : s.Nonempty) (o : ι → EReal) :
    ∃ i ∈ s, s.fold max (⊥ : EReal) o = o i := by
  classical
  induction s using Finset.induction_on with
  | empty => exact absurd rfl hs.ne_empty
  | insert a s ha ih =>
    rw [Finset.fold_insert ha]
    by_cases hn : s.Nonempty
    · obtain ⟨i, hi, he⟩ := ih hn
      rw [he]
      rcases max_choice (o a) (o i) with h | h
      · exact ⟨a, Finset.mem_insert_self _ _, h⟩
      · exact ⟨i, Finset.mem_insert_of_mem hi, h⟩
    · rw [Finset.not_nonempty_iff_eq_empty.mp hn, Finset.fold_empty]
      exact ⟨a, Finset.mem_insert_self _ _, max_eq_left bot_le⟩

theorem top_real {n : ℕ} {o : Fin n → EReal} (h : ∀ c, IsR (o c)) (c : Fin n) : IsR (top o) := by
  obtain ⟨i, -, he⟩ := fold_max_mem Finset.univ ⟨c, Finset.mem_univ c⟩ o
  unfold top; rw [he]; exact h i

theorem sum_exp_pos {n : ℕ} {o : Fin n → EReal} (h : ∀ c, IsR (o c)) (c : Fin n) :
    0 < ∑ x, Ideal.exp (o x - top o) := by
  refine lt_of_lt_of_le ?_ (Finset.single_le_sum (f := fun x => Ideal.exp (o x - top o))
    (fun i _ => exp_nonneg _) (Finset.mem_univ c))
  obtain ⟨r, hr⟩ := (h c).sub (top_real h c)
  rw [hr, Ideal.exp_coe]; exact_mod_cast Real.exp_pos r

/-- The two spellings of a row's loss agree, and it is real: with label `t`, the kernel's is minus the reference's
    log-probability at `t`. -/
theorem lossK_eq {n : ℕ} (hn : n ≤ 2 ^ 32) {o : Fin n → EReal} (h : ∀ c, IsR (o c)) (t : Fin n) :
    ∃ r : ℝ, lossK o (BitVec.ofNat 32 t.val) = (r : EReal) ∧ logp o t = ((-r : ℝ) : EReal) := by
  obtain ⟨m, hm⟩ := top_real h t
  obtain ⟨a, ha⟩ := h t
  obtain ⟨l, hl⟩ := IsR.log (sum_exp_pos h t) (IsR.sum fun x _ => ((h x).sub (top_real h t)).exp)
  have hs : ∑ x : Fin n, bit (BitVec.ofNat 32 x.val = BitVec.ofNat 32 t.val) * o x = o t := by
    rw [Finset.sum_eq_single t]
    · unfold bit; rw [if_pos rfl, one_mul]
    · intro x _ hx
      unfold bit
      rw [if_neg, zero_mul]
      intro he
      have := congrArg BitVec.toNat he
      rw [BitVec.toNat_ofNat, BitVec.toNat_ofNat, Nat.mod_eq_of_lt (by omega), Nat.mod_eq_of_lt (by omega)] at this
      exact hx (Fin.ext this)
    · intro hx; exact absurd (Finset.mem_univ t) hx
  refine ⟨l + m - a, ?_, ?_⟩
  · unfold lossK; rw [hl, hm, hs, ha]; push_cast; rfl
  · unfold logp; rw [hl, hm, ha, ← EReal.coe_sub, ← EReal.coe_sub]; congr 1; ring

end Cert.Spec
-- ==== Proof.RRows.lean ====
/- What the reference's operations compute at an index, over the extended reals. -/
module

public import proofs.«01_k».proof.Proof.Gen.ReferenceIdeal.Run
public import proofs.«01_k».proof.Proof.Spec
public import Idealize.ShloMosaic.Lib.StableHlo.ReadAt

@[expose] public section

set_option maxRecDepth 16384

noncomputable section

open Idealize.ShloMosaic Idealize.ShloMosaic.TcCoe Idealize.ShloMosaic.Pointwise
open Cert.Spec

namespace Cert.ReferenceIdeal.Rows

open Cert.ReferenceIdeal Cert.ReferenceIdeal.Gen Cert.ReferenceIdeal.Value Idealize.ShloMosaic.StableHlo

variable (V : Valuation τ sig (Elt Ideal))

/-- A flag converted to a number is one or zero. -/
theorem flag (p : Prop) [Decidable p] :
    FloatOps.uitofp (F := Ideal) FTy.f32 (BitVec.ofBool (decide p)) = bit p := by
  by_cases h : p
  · simp only [h, decide_true, bit, if_true]
    show ((((1#1 : BitVec 1).toNat : ℝ)) : EReal) = 1
    norm_num
  · simp only [h, decide_false, bit, if_false]
    show ((((0#1 : BitVec 1).toNat : ℝ)) : EReal) = 0
    norm_num

/-- A word comparison for equality as a flag. -/
theorem cmpi_eq (a b : BitVec 32) : IntOp.cmpi CmpIPredicate.eq a b = BitVec.ofBool (decide (a = b)) := by
  unfold IntOp.cmpi; simp [BEq.beq]

/-- The pattern of minus infinity. -/
theorem ofBits_bot : Ideal.ofBits .f32 0xFF800000#32 = ⊥ := by
  unfold Ideal.ofBits Ideal.ieee
  simp

/-- A gather of one entry per row, the column given by a start index within the row. -/
theorem gather_cols {n : ℕ} {α : Type}
    (wf : GatherDims.WF ⟨2, ![n, 1000]⟩ ⟨3, ![n, 1, 1]⟩ ⟨2, ![n, 1]⟩ [] [1] [0] [1] [0] 2 ![1, 1])
    (l : (⟨2, ![n, 1000]⟩ : Shape).Idx → α) (w : IVec ⟨3, ![n, 1, 1]⟩ 32) (i : Fin n) (t : Fin 1000)
    (h : w (ix3 i 0 0) = BitVec.ofNat 32 t.val) :
    Host.gather (⟨[], [1], [0], [0], [1], 2, ![1, 1], wf⟩ : GatherDims ⟨2, ![n, 1000]⟩ ⟨3, ![n, 1, 1]⟩ ⟨2, ![n, 1]⟩) l w (ix2 i 0)
      = l (ix2 i t) := by
  set D : GatherDims ⟨2, ![n, 1000]⟩ ⟨3, ![n, 1, 1]⟩ ⟨2, ![n, 1]⟩ := ⟨[], [1], [0], [0], [1], 2, ![1, 1], wf⟩ with hD
  unfold Host.gather
  refine congrArg l (funext fun a => Fin.ext ?_)
  show D.start (ix2 i 0) w a + D.batchCoord (ix2 i 0) a + D.offCoord (ix2 i 0) a = _
  have ho : D.offCoord (ix2 i 0) a = 0 := by
    refine D.offCoord_eq_zero _ _ fun hk => ?_
    obtain ⟨h1, h2⟩ := (D.mem_sKept a).mp hk
    match a with
    | ⟨0, _⟩ => exact h2 (List.mem_singleton.mpr rfl)
    | ⟨1, _⟩ => exact h1 (List.mem_singleton.mpr rfl)
  rw [ho]
  have h01 : a = (0 : Fin 2) ∨ a = (1 : Fin 2) := by
    match a with
    | ⟨0, _⟩ => exact Or.inl rfl
    | ⟨1, _⟩ => exact Or.inr rfl
  rcases h01 with rfl | rfl
  · rw [D.start_batching _ _ _ (show (0 : Fin 2) ∈ D.operandBatchingDims from List.mem_singleton.mpr rfl)]
    unfold GatherDims.batchCoord
    rw [dif_pos (show (0 : Fin 2) ∈ D.operandBatchingDims from List.mem_singleton.mpr rfl)]
    show 0 + i.val + 0 = i.val
    omega
  · rw [D.batchCoord_eq_zero _ _ (show ¬ (1 : Fin 2) ∈ [(0 : Fin 2)] by decide)]
    unfold GatherDims.start
    rw [dif_pos (show (1 : Fin 2) ∈ D.startIndexMap from List.mem_singleton.mpr rfl)]
    have hs : D.siIdx (ix2 i 0) ⟨List.idxOf (1 : Fin 2) D.startIndexMap,
        List.idxOf_lt_length_iff.2 (List.mem_singleton.mpr rfl)⟩ = ix3 i 0 0 := by
      funext b
      match b with
      | ⟨0, _⟩ => exact Fin.ext rfl
      | ⟨1, _⟩ => exact Fin.ext rfl
      | ⟨2, _⟩ => exact Fin.ext rfl
    rw [hs, h]
    show min (BitVec.ofNat 32 t.val).toInt.toNat (1000 - 1) + 0 + 0 = t.val
    have : ∀ t : Fin 1000, min (BitVec.ofNat 32 t.val).toInt.toNat (1000 - 1) + 0 + 0 = t.val := by decide +kernel
    exact this t

/-! ## Rows of 1000 classes, 4096 of them -/

/-- The masked exponentials. -/
def exp4096 (L : FVec Ideal S4096x1000 .f32) : FVec Ideal S4096x1000 .f32 :=
  mulf (Host.exp (mulf L (broadcastInDim S4096x1000 ![] bcast_S_S4096x1000 (constant S_ .f32 0x3F800000#32))))
    (subf (broadcastInDim S4096x1000 ![] bcast_S_S4096x1000 (constant S_ .f32 0x3F800000#32))
      (uitofp .f32 (cmpf .oeq L (broadcastInDim S4096x1000 ![] bcast_S_S4096x1000 (constant S_ .f32 0x00000000#32)))))

theorem exp4096_at (L : FVec Ideal S4096x1000 .f32) (i : Fin 4096) (c : Fin 1000) : exp4096 L (ix2 i c) = expd (L (ix2 i c)) := by
  unfold exp4096
  pointwise
  rw [flag]
  rfl

/-- The masked softmax from the masked exponentials. -/
def prob4096 (E : FVec Ideal S4096x1000 .f32) : FVec Ideal S4096x1000 .f32 :=
  Host.divf E (broadcastInDim S4096x1000 ![0, 1] bcast_S4096x1_S4096x1000_0_1
    (addf (broadcastInDim S4096x1 ![] bcast_S_S4096x1 (constant S_ .f32 0x322BCC77#32))
      (broadcastInDim S4096x1 ![0] bcast_S4096_S4096x1_0
        (Host.reduceAdd E (constant S_ .f32 0x00000000#32) reducesTo_S4096x1000_S4096_d1 h_S_))))

theorem prob4096_at (L : FVec Ideal S4096x1000 .f32) (i : Fin 4096) (c : Fin 1000) :
    prob4096 (exp4096 L) (ix2 i c) = prob (fun c => L (ix2 i c)) c := by
  unfold prob4096
  pointwise
  simp only [exp4096_at]
  rfl

/-- The one-hot rows of the labels `y`. -/
def hot4096 (y : IVec S4096 32) : FVec Ideal S4096x1000 .f32 :=
  uitofp .f32 (cmpi .eq (broadcastInDim S4096x1000 ![0, 1] bcast_S4096x1_S4096x1000_0_1 (broadcastInDim S4096x1 ![0] bcast_S4096_S4096x1_0 y))
    (broadcastInDim S4096x1000 ![0, 1] bcast_S1x1000_S4096x1000_0_1 (iotaInDim S1x1000 32 1)))

theorem hot4096_at (y : IVec S4096 32) (i : Fin 4096) (c : Fin 1000) :
    hot4096 y (ix2 i c) = bit (BitVec.ofNat 32 c.val = y (ix1 i)) := by
  unfold hot4096
  pointwise
  rw [cmpi_eq, flag]
  exact if_congr eq_comm rfl rfl

/-- The margin's scores from the probabilities `p` and the one-hot rows `t`. -/
def score4096 (p t : FVec Ideal S4096x1000 .f32) : FVec Ideal S4096x1000 .f32 :=
  mulf (addf (mulf t (select (cmpf .ogt (subf p (broadcastInDim S4096x1000 ![] bcast_S_S4096x1000 (constant S_ .f32 0xBF7FFCB9#32)))
          (broadcastInDim S4096x1000 ![] bcast_S_S4096x1000 (constant S_ .f32 0x00000000#32)))
        (subf (mulf p (broadcastInDim S4096x1000 ![] bcast_S_S4096x1000 (constant S_ .f32 0x3F7FFCB9#32)))
          (mulf (Host.sqrt (minimumf (broadcastInDim S4096x1000 ![] bcast_S_S4096x1000 (constant S_ .f32 0x3F800000#32))
              (maximumf (broadcastInDim S4096x1000 ![] bcast_S_S4096x1000 (constant S_ .f32 0x00000000#32))
                (subf (broadcastInDim S4096x1000 ![] bcast_S_S4096x1000 (constant S_ .f32 0x3F800000#32)) (mulf p p)))))
            (broadcastInDim S4096x1000 ![] bcast_S_S4096x1000 (constant S_ .f32 0x3C23D657#32))))
        (subf p (broadcastInDim S4096x1000 ![] bcast_S_S4096x1000 (constant S_ .f32 0x38D1B632#32)))))
      (mulf (subf (broadcastInDim S4096x1000 ![] bcast_S_S4096x1000 (constant S_ .f32 0x3F800000#32)) t) p))
    (broadcastInDim S4096x1000 ![] bcast_S_S4096x1000 (constant S_ .f32 0x41700000#32))

theorem score4096_at (p t : FVec Ideal S4096x1000 .f32) (i : Fin 4096) (c : Fin 1000) :
    score4096 p t (ix2 i c) = arc (p (ix2 i c)) (t (ix2 i c)) := by
  unfold score4096
  pointwise
  rfl

/-- The rows' greatest entries. -/
def peak4096 (o : FVec Ideal S4096x1000 .f32) : FVec Ideal S4096 .f32 :=
  Host.reduce FloatOps.maximumf o (constant S_ .f32 0xFF800000#32) reducesTo_S4096x1000_S4096_d1 h_S_

theorem peak4096_at (o : FVec Ideal S4096x1000 .f32) (i : Fin 4096) : peak4096 o (ix1 i) = top fun c => o (ix2 i c) := by
  unfold peak4096
  pointwise
  rw [ofBits_bot]
  rfl

/-- Numbers no less than minus infinity. -/
def floor4096 (M : FVec Ideal S4096 .f32) : FVec Ideal S4096 .f32 :=
  maximumf (broadcastInDim S4096 ![] bcast_S_S4096 (constant S_ .f32 0xFF800000#32)) M

theorem floor4096_at (M : FVec Ideal S4096 .f32) (i : Fin 4096) : floor4096 M (ix1 i) = M (ix1 i) := by
  unfold floor4096
  pointwise
  rw [ofBits_bot]
  exact max_eq_right bot_le

/-- The scores less a number per row. -/
def less4096 (o : FVec Ideal S4096x1000 .f32) (M : FVec Ideal S4096 .f32) : FVec Ideal S4096x1000 .f32 :=
  subf o (broadcastInDim S4096x1000 ![0, 1] bcast_S4096x1_S4096x1000_0_1 (broadcastInDim S4096x1 ![0] bcast_S4096_S4096x1_0 M))

theorem less4096_at (o : FVec Ideal S4096x1000 .f32) (M : FVec Ideal S4096 .f32) (i : Fin 4096) (c : Fin 1000) :
    less4096 o M (ix2 i c) = o (ix2 i c) - M (ix1 i) := by
  unfold less4096
  pointwise

/-- The scores less their row's greatest. -/
def shift4096 (o : FVec Ideal S4096x1000 .f32) : FVec Ideal S4096x1000 .f32 := less4096 o (floor4096 (peak4096 o))

theorem shift4096_at (o : FVec Ideal S4096x1000 .f32) (i : Fin 4096) (c : Fin 1000) :
    shift4096 o (ix2 i c) = o (ix2 i c) - top fun c => o (ix2 i c) := by
  unfold shift4096
  rw [less4096_at, floor4096_at, peak4096_at]

/-- The labels as start indices, a negative one counted from the end. -/
def start4096 (y : IVec S4096 32) : IVec S4096x1x1 32 :=
  shapeCast S4096x1x1 (select (cmpi .slt (broadcastInDim S4096x1 ![0] bcast_S4096_S4096x1_0 y) (broadcastInDim S4096x1 ![] bcast_S_S4096x1 (constantI S_ 32 0#32)))
    (addi (broadcastInDim S4096x1 ![0] bcast_S4096_S4096x1_0 y) (broadcastInDim S4096x1 ![] bcast_S_S4096x1 (constantI S_ 32 1000#32)))
    (broadcastInDim S4096x1 ![0] bcast_S4096_S4096x1_0 y)) shapeCasts_S4096x1_S4096x1x1

theorem start4096_at (y : IVec S4096 32) (i : Fin 4096) (t : Fin 1000) (h : y (ix1 i) = BitVec.ofNat 32 t.val) :
    start4096 y (ix3 i 0 0) = BitVec.ofNat 32 t.val := by
  unfold start4096
  pointwise
  rw [h]
  rw [show IntOp.cmpi CmpIPredicate.slt (BitVec.ofNat 32 t.val) 0#32 = 0#1 from by clear h; revert t; decide +kernel]
  rfl

/-- The log-probabilities from the shifted scores. -/
def log4096 (s : FVec Ideal S4096x1000 .f32) : FVec Ideal S4096x1000 .f32 :=
  subf s (broadcastInDim S4096x1000 ![0, 1] bcast_S4096x1_S4096x1000_0_1 (Host.log (broadcastInDim S4096x1 ![0] bcast_S4096_S4096x1_0
    (Host.reduceAdd (Host.exp s) (constant S_ .f32 0x00000000#32) reducesTo_S4096x1000_S4096_d1 h_S_))))

theorem log4096_at (o : FVec Ideal S4096x1000 .f32) (i : Fin 4096) (c : Fin 1000) :
    log4096 (shift4096 o) (ix2 i c) = logp (fun c => o (ix2 i c)) c := by
  unfold log4096
  pointwise
  simp only [shift4096_at]
  rfl

/-- The entries of `l` at the start indices `w`, one per row. -/
def take4096 (l : FVec Ideal S4096x1000 .f32) (w : IVec S4096x1x1 32) : FVec Ideal S4096x1 .f32 :=
  select (Host.reduce IntOp.andi (andi (cmpi .sge w (broadcastInDim S4096x1x1 ![] bcast_S_S4096x1x1 (constantI S_ 32 0#32)))
      (cmpi .sle w (broadcastInDim S4096x1x1 ![0, 1, 2] bcast_S1x1x1_S4096x1x1_0_1_2 (broadcastInDim S1x1x1 ![2] bcast_S1_S1x1x1_2 (constantI S1 32 999#32)))))
      (constantI S_ 1 1#1) reducesTo_S4096x1x1_S4096x1_d2 h_S_)
    (Host.gather gather_S4096x1000_S4096x1x1_S4096x1_n_1_0_0_1_2_11 l w)
    (broadcastInDim S4096x1 ![] bcast_S_S4096x1 (constant S_ .f32 0x7FC00000#32))

theorem take4096_at (l : FVec Ideal S4096x1000 .f32) (w : IVec S4096x1x1 32) (i : Fin 4096) (t : Fin 1000)
    (h : w (ix3 i 0 0) = BitVec.ofNat 32 t.val) : take4096 l w (ix2 i 0) = l (ix2 i t) := by
  have hg : Host.gather gather_S4096x1000_S4096x1x1_S4096x1_n_1_0_0_1_2_11 l w (ix2 i 0) = l (ix2 i t) :=
    gather_cols _ l w i t h
  unfold take4096
  pointwise
  rw [hg]
  have hf : Finset.fold IntOp.andi 1#1 (fun x : Fin 1 => IntOp.andi (IntOp.cmpi CmpIPredicate.sge (w (ix3 i 0 x)) 0#32)
      (IntOp.cmpi CmpIPredicate.sle (w (ix3 i 0 x)) 999#32)) Finset.univ = 1#1 := by
    rw [Finset.univ_unique, Finset.fold_singleton]
    rw [show (default : Fin 1) = 0 from rfl, h]
    clear h hg
    revert t; decide +kernel
  rw [hf]
  rfl

/-- Minus the mean of the taken log-probabilities. -/
def mean4096 (l : FVec Ideal S4096x1 .f32) : FVec Ideal S_ .f32 :=
  Host.negf (Host.divf (Host.reduceAdd l (constant S_ .f32 0x00000000#32) reducesTo_S4096x1_S_d0_1 h_S_) (constant S_ .f32 0x45800000#32))

theorem mean4096_at (l : FVec Ideal S4096x1 .f32) : mean4096 l ix0 = -Ideal.div (∑ i : Fin 4096, l (ix2 i 0)) (Ideal.ofBits .f32 0x45800000#32) := by
  unfold mean4096
  pointwise
  simp only [Finset.univ_unique, Finset.sum_singleton]
  rfl

/-! ## Rows of 1000 classes, 5000 of them -/

/-- The masked exponentials. -/
def exp5000 (L : FVec Ideal S5000x1000 .f32) : FVec Ideal S5000x1000 .f32 :=
  mulf (Host.exp (mulf L (broadcastInDim S5000x1000 ![] bcast_S_S5000x1000 (constant S_ .f32 0x3F800000#32))))
    (subf (broadcastInDim S5000x1000 ![] bcast_S_S5000x1000 (constant S_ .f32 0x3F800000#32))
      (uitofp .f32 (cmpf .oeq L (broadcastInDim S5000x1000 ![] bcast_S_S5000x1000 (constant S_ .f32 0x00000000#32)))))

theorem exp5000_at (L : FVec Ideal S5000x1000 .f32) (i : Fin 5000) (c : Fin 1000) : exp5000 L (ix2 i c) = expd (L (ix2 i c)) := by
  unfold exp5000
  pointwise
  rw [flag]
  rfl

/-- The masked softmax from the masked exponentials. -/
def prob5000 (E : FVec Ideal S5000x1000 .f32) : FVec Ideal S5000x1000 .f32 :=
  Host.divf E (broadcastInDim S5000x1000 ![0, 1] bcast_S5000x1_S5000x1000_0_1
    (addf (broadcastInDim S5000x1 ![] bcast_S_S5000x1 (constant S_ .f32 0x322BCC77#32))
      (broadcastInDim S5000x1 ![0] bcast_S5000_S5000x1_0
        (Host.reduceAdd E (constant S_ .f32 0x00000000#32) reducesTo_S5000x1000_S5000_d1 h_S_))))

theorem prob5000_at (L : FVec Ideal S5000x1000 .f32) (i : Fin 5000) (c : Fin 1000) :
    prob5000 (exp5000 L) (ix2 i c) = prob (fun c => L (ix2 i c)) c := by
  unfold prob5000
  pointwise
  simp only [exp5000_at]
  rfl

/-- The one-hot rows of the labels `y`. -/
def hot5000 (y : IVec S5000 32) : FVec Ideal S5000x1000 .f32 :=
  uitofp .f32 (cmpi .eq (broadcastInDim S5000x1000 ![0, 1] bcast_S5000x1_S5000x1000_0_1 (broadcastInDim S5000x1 ![0] bcast_S5000_S5000x1_0 y))
    (broadcastInDim S5000x1000 ![0, 1] bcast_S1x1000_S5000x1000_0_1 (iotaInDim S1x1000 32 1)))

theorem hot5000_at (y : IVec S5000 32) (i : Fin 5000) (c : Fin 1000) :
    hot5000 y (ix2 i c) = bit (BitVec.ofNat 32 c.val = y (ix1 i)) := by
  unfold hot5000
  pointwise
  rw [cmpi_eq, flag]
  exact if_congr eq_comm rfl rfl

/-- The margin's scores from the probabilities `p` and the one-hot rows `t`. -/
def score5000 (p t : FVec Ideal S5000x1000 .f32) : FVec Ideal S5000x1000 .f32 :=
  mulf (addf (mulf t (select (cmpf .ogt (subf p (broadcastInDim S5000x1000 ![] bcast_S_S5000x1000 (constant S_ .f32 0xBF7FFCB9#32)))
          (broadcastInDim S5000x1000 ![] bcast_S_S5000x1000 (constant S_ .f32 0x00000000#32)))
        (subf (mulf p (broadcastInDim S5000x1000 ![] bcast_S_S5000x1000 (constant S_ .f32 0x3F7FFCB9#32)))
          (mulf (Host.sqrt (minimumf (broadcastInDim S5000x1000 ![] bcast_S_S5000x1000 (constant S_ .f32 0x3F800000#32))
              (maximumf (broadcastInDim S5000x1000 ![] bcast_S_S5000x1000 (constant S_ .f32 0x00000000#32))
                (subf (broadcastInDim S5000x1000 ![] bcast_S_S5000x1000 (constant S_ .f32 0x3F800000#32)) (mulf p p)))))
            (broadcastInDim S5000x1000 ![] bcast_S_S5000x1000 (constant S_ .f32 0x3C23D657#32))))
        (subf p (broadcastInDim S5000x1000 ![] bcast_S_S5000x1000 (constant S_ .f32 0x38D1B632#32)))))
      (mulf (subf (broadcastInDim S5000x1000 ![] bcast_S_S5000x1000 (constant S_ .f32 0x3F800000#32)) t) p))
    (broadcastInDim S5000x1000 ![] bcast_S_S5000x1000 (constant S_ .f32 0x41700000#32))

theorem score5000_at (p t : FVec Ideal S5000x1000 .f32) (i : Fin 5000) (c : Fin 1000) :
    score5000 p t (ix2 i c) = arc (p (ix2 i c)) (t (ix2 i c)) := by
  unfold score5000
  pointwise
  rfl

/-- The rows' greatest entries. -/
def peak5000 (o : FVec Ideal S5000x1000 .f32) : FVec Ideal S5000 .f32 :=
  Host.reduce FloatOps.maximumf o (constant S_ .f32 0xFF800000#32) reducesTo_S5000x1000_S5000_d1 h_S_

theorem peak5000_at (o : FVec Ideal S5000x1000 .f32) (i : Fin 5000) : peak5000 o (ix1 i) = top fun c => o (ix2 i c) := by
  unfold peak5000
  pointwise
  rw [ofBits_bot]
  rfl

/-- Numbers no less than minus infinity. -/
def floor5000 (M : FVec Ideal S5000 .f32) : FVec Ideal S5000 .f32 :=
  maximumf (broadcastInDim S5000 ![] bcast_S_S5000 (constant S_ .f32 0xFF800000#32)) M

theorem floor5000_at (M : FVec Ideal S5000 .f32) (i : Fin 5000) : floor5000 M (ix1 i) = M (ix1 i) := by
  unfold floor5000
  pointwise
  rw [ofBits_bot]
  exact max_eq_right bot_le

/-- The scores less a number per row. -/
def less5000 (o : FVec Ideal S5000x1000 .f32) (M : FVec Ideal S5000 .f32) : FVec Ideal S5000x1000 .f32 :=
  subf o (broadcastInDim S5000x1000 ![0, 1] bcast_S5000x1_S5000x1000_0_1 (broadcastInDim S5000x1 ![0] bcast_S5000_S5000x1_0 M))

theorem less5000_at (o : FVec Ideal S5000x1000 .f32) (M : FVec Ideal S5000 .f32) (i : Fin 5000) (c : Fin 1000) :
    less5000 o M (ix2 i c) = o (ix2 i c) - M (ix1 i) := by
  unfold less5000
  pointwise

/-- The scores less their row's greatest. -/
def shift5000 (o : FVec Ideal S5000x1000 .f32) : FVec Ideal S5000x1000 .f32 := less5000 o (floor5000 (peak5000 o))

theorem shift5000_at (o : FVec Ideal S5000x1000 .f32) (i : Fin 5000) (c : Fin 1000) :
    shift5000 o (ix2 i c) = o (ix2 i c) - top fun c => o (ix2 i c) := by
  unfold shift5000
  rw [less5000_at, floor5000_at, peak5000_at]

/-- The labels as start indices, a negative one counted from the end. -/
def start5000 (y : IVec S5000 32) : IVec S5000x1x1 32 :=
  shapeCast S5000x1x1 (select (cmpi .slt (broadcastInDim S5000x1 ![0] bcast_S5000_S5000x1_0 y) (broadcastInDim S5000x1 ![] bcast_S_S5000x1 (constantI S_ 32 0#32)))
    (addi (broadcastInDim S5000x1 ![0] bcast_S5000_S5000x1_0 y) (broadcastInDim S5000x1 ![] bcast_S_S5000x1 (constantI S_ 32 1000#32)))
    (broadcastInDim S5000x1 ![0] bcast_S5000_S5000x1_0 y)) shapeCasts_S5000x1_S5000x1x1

theorem start5000_at (y : IVec S5000 32) (i : Fin 5000) (t : Fin 1000) (h : y (ix1 i) = BitVec.ofNat 32 t.val) :
    start5000 y (ix3 i 0 0) = BitVec.ofNat 32 t.val := by
  unfold start5000
  pointwise
  rw [h]
  rw [show IntOp.cmpi CmpIPredicate.slt (BitVec.ofNat 32 t.val) 0#32 = 0#1 from by clear h; revert t; decide +kernel]
  rfl

/-- The log-probabilities from the shifted scores. -/
def log5000 (s : FVec Ideal S5000x1000 .f32) : FVec Ideal S5000x1000 .f32 :=
  subf s (broadcastInDim S5000x1000 ![0, 1] bcast_S5000x1_S5000x1000_0_1 (Host.log (broadcastInDim S5000x1 ![0] bcast_S5000_S5000x1_0
    (Host.reduceAdd (Host.exp s) (constant S_ .f32 0x00000000#32) reducesTo_S5000x1000_S5000_d1 h_S_))))

theorem log5000_at (o : FVec Ideal S5000x1000 .f32) (i : Fin 5000) (c : Fin 1000) :
    log5000 (shift5000 o) (ix2 i c) = logp (fun c => o (ix2 i c)) c := by
  unfold log5000
  pointwise
  simp only [shift5000_at]
  rfl

/-- The entries of `l` at the start indices `w`, one per row. -/
def take5000 (l : FVec Ideal S5000x1000 .f32) (w : IVec S5000x1x1 32) : FVec Ideal S5000x1 .f32 :=
  select (Host.reduce IntOp.andi (andi (cmpi .sge w (broadcastInDim S5000x1x1 ![] bcast_S_S5000x1x1 (constantI S_ 32 0#32)))
      (cmpi .sle w (broadcastInDim S5000x1x1 ![0, 1, 2] bcast_S1x1x1_S5000x1x1_0_1_2 (broadcastInDim S1x1x1 ![2] bcast_S1_S1x1x1_2 (constantI S1 32 999#32)))))
      (constantI S_ 1 1#1) reducesTo_S5000x1x1_S5000x1_d2 h_S_)
    (Host.gather gather_S5000x1000_S5000x1x1_S5000x1_n_1_0_0_1_2_11 l w)
    (broadcastInDim S5000x1 ![] bcast_S_S5000x1 (constant S_ .f32 0x7FC00000#32))

theorem take5000_at (l : FVec Ideal S5000x1000 .f32) (w : IVec S5000x1x1 32) (i : Fin 5000) (t : Fin 1000)
    (h : w (ix3 i 0 0) = BitVec.ofNat 32 t.val) : take5000 l w (ix2 i 0) = l (ix2 i t) := by
  have hg : Host.gather gather_S5000x1000_S5000x1x1_S5000x1_n_1_0_0_1_2_11 l w (ix2 i 0) = l (ix2 i t) :=
    gather_cols _ l w i t h
  unfold take5000
  pointwise
  rw [hg]
  have hf : Finset.fold IntOp.andi 1#1 (fun x : Fin 1 => IntOp.andi (IntOp.cmpi CmpIPredicate.sge (w (ix3 i 0 x)) 0#32)
      (IntOp.cmpi CmpIPredicate.sle (w (ix3 i 0 x)) 999#32)) Finset.univ = 1#1 := by
    rw [Finset.univ_unique, Finset.fold_singleton]
    rw [show (default : Fin 1) = 0 from rfl, h]
    clear h hg
    revert t; decide +kernel
  rw [hf]
  rfl

/-- Minus the mean of the taken log-probabilities. -/
def mean5000 (l : FVec Ideal S5000x1 .f32) : FVec Ideal S_ .f32 :=
  Host.negf (Host.divf (Host.reduceAdd l (constant S_ .f32 0x00000000#32) reducesTo_S5000x1_S_d0_1 h_S_) (constant S_ .f32 0x459C4000#32))

theorem mean5000_at (l : FVec Ideal S5000x1 .f32) : mean5000 l ix0 = -Ideal.div (∑ i : Fin 5000, l (ix2 i 0)) (Ideal.ofBits .f32 0x459C4000#32) := by
  unfold mean5000
  pointwise
  simp only [Finset.univ_unique, Finset.sum_singleton]
  rfl

end Cert.ReferenceIdeal.Rows
-- ==== Proof.RMask.lean ====
/- The reference's selection: the columns in descending order, and the mask of the first 500 of them. -/
module

public import proofs.«01_k».proof.Proof.RRows
public import Idealize.ShloMosaic.Lib.SortFacts
public import Idealize.ShloMosaic.Lib.Routing.OpsSet
public import Idealize.ShloMosaic.Lib.Routing.OpsPair

@[expose] public section

set_option maxRecDepth 16384

noncomputable section

open Idealize.ShloMosaic Idealize.ShloMosaic.TcCoe Idealize.ShloMosaic.Pointwise
open Cert.Spec

namespace Cert.ReferenceIdeal.Mask

open Cert.ReferenceIdeal Cert.ReferenceIdeal.Gen Cert.ReferenceIdeal.Rows

/-- The columns of a row of numbers, the greatest first. -/
def ranked (s : Fin 5000 → EReal) : Fin 5000 → Fin 5000 :=
  sortedFrom fun k k' => (FloatOps.cmpfTotal (F := Ideal) (φ := .f32) CmpDirection.gt (s k) (s k') : BitVec 1) == 1#1

theorem before_iff (a b : EReal) :
    ((FloatOps.cmpfTotal (F := Ideal) (φ := .f32) CmpDirection.gt a b : BitVec 1) == 1#1) = decide (b < a) := by
  show (BitVec.ofBool (decide (b < a)) == 1#1) = decide (b < a)
  by_cases h : b < a <;> simp [h]

theorem ranked_eq (s : Fin 5000 → EReal) : ranked s = sortedFrom fun k k' => decide (s k' < s k) := by
  unfold ranked
  simp only [before_iff]

/-- Every column has one rank. -/
theorem ranked_bij (s : Fin 5000 → EReal) : Function.Bijective (ranked s) :=
  ⟨sortedFrom_injective _, sortedFrom_surjective _⟩

/-- A later rank is not greater. -/
theorem ranked_anti (s : Fin 5000 → EReal) {i j : Fin 5000} (h : i < j) : s (ranked s j) ≤ s (ranked s i) := by
  rw [ranked_eq]
  have := sortedFrom_noInversion (fun k k' => decide (s k' < s k)) (fun k k' => decide (s k' < s k))
    (fun a b hab => by simp only [decide_eq_true_eq, decide_eq_false_iff_not] at hab ⊢; exact not_lt.mpr hab.le)
    (fun a b hab => hab)
    (fun a b c hab hbc => by
      simp only [decide_eq_false_iff_not, not_lt] at hab hbc ⊢; exact hab.trans hbc) i j h
  simpa using this

theorem along2 (i : Fin 4096) (j k : Fin 5000) (h : 1 < 2) :
    Shape.Idx.along (s := S4096x5000) (ix2 i j) (⟨1, h⟩ : Fin 2) k = ix2 i k := by
  funext a
  match a with
  | ⟨0, _⟩ => rfl
  | ⟨1, _⟩ => rfl

/-- A slice from the origin, read at an entry. -/
theorem slice_at {α : Type} {n : ℕ} (y : S4096x5000.Idx → α) (h : S4096x5000.Slices (fun _ => 0) ⟨2, ![4096, n]⟩)
    (i : Fin 4096) (q : Fin n) (hq : q.val < 5000) :
    extractStridedSlice ⟨2, ![4096, n]⟩ (fun _ => 0) y h (ix2 i q) = y (ix2 i ⟨q.val, hq⟩) := by
  unfold extractStridedSlice
  refine congrArg y (funext fun a => ?_)
  match a with
  | ⟨0, _⟩ => exact Fin.ext (Nat.zero_add _)
  | ⟨1, _⟩ => exact Fin.ext (Nat.zero_add _)

/-- The value of rank `q` in a row. -/
theorem topK_value {n : ℕ} (x : FVec Ideal S4096x5000 .f32) (h : S4096x5000.Slices (fun _ => 0) ⟨2, ![4096, n]⟩)
    (i : Fin 4096) (q : Fin n) (hq : q.val < 5000) :
    (Host.topK ⟨2, ![4096, n]⟩ 1 (FloatOps.cmpfTotal .gt) x h).1 (ix2 i q)
      = x (ix2 i (ranked (fun j => x (ix2 i j)) ⟨q.val, hq⟩)) := by
  unfold Host.topK Host.sort2
  have e : 1 < S4096x5000.rank := by decide
  dsimp only
  simp only [dif_pos e]
  rw [slice_at _ h i q hq]
  have e1 : ∀ k : Fin (S4096x5000.size ⟨1, e⟩), Shape.Idx.along (s := S4096x5000) (ix2 i ⟨q.val, hq⟩) ⟨1, e⟩ k = ix2 i k :=
    fun k => along2 i _ k e
  simp only [e1]
  rfl

/-- The column of rank `q` in a row. -/
theorem topK_index {n : ℕ} (x : FVec Ideal S4096x5000 .f32) (h : S4096x5000.Slices (fun _ => 0) ⟨2, ![4096, n]⟩)
    (i : Fin 4096) (q : Fin n) (hq : q.val < 5000) :
    (Host.topK ⟨2, ![4096, n]⟩ 1 (FloatOps.cmpfTotal .gt) x h).2 (ix2 i q)
      = BitVec.ofNat 32 (ranked (fun j => x (ix2 i j)) ⟨q.val, hq⟩).val := by
  unfold Host.topK Host.sort2
  have e : 1 < S4096x5000.rank := by decide
  dsimp only
  simp only [dif_pos e]
  rw [slice_at _ h i q hq]
  have e1 : ∀ k : Fin (S4096x5000.size ⟨1, e⟩), Shape.Idx.along (s := S4096x5000) (ix2 i ⟨q.val, hq⟩) ⟨1, e⟩ k = ix2 i k :=
    fun k => along2 i _ k e
  simp only [e1]
  rfl

/-- The row numbers as a column. -/
def rowNo : IVec S4096x1 32 := broadcastInDim S4096x1 ![0] bcast_S4096_S4096x1_0 (iotaInDim S4096 32 0)

theorem rowNo_at (i : Fin 4096) : rowNo (ix2 i 0) = BitVec.ofNat 32 i.val := by
  unfold rowNo
  pointwise

/-- The row numbers as the first index words, a negative one counted from the end. -/
def firstWord (J : IVec S4096x1 32) : IVec S4096x500x1 32 :=
  broadcastInDim S4096x500x1 ![0, 1] bcast_S4096x500_S4096x500x1_0_1 (broadcastInDim S4096x500 ![0, 1] bcast_S4096x1_S4096x500_0_1
    (select (cmpi .slt J (broadcastInDim S4096x1 ![] bcast_S_S4096x1 (constantI S_ 32 0#32)))
      (addi J (broadcastInDim S4096x1 ![] bcast_S_S4096x1 (constantI S_ 32 4096#32))) J))

theorem firstWord_at (J : IVec S4096x1 32) (i : Fin 4096) (q : Fin 500) (h : J (ix2 i 0) = BitVec.ofNat 32 i.val) :
    firstWord J (ix3 i q 0) = BitVec.ofNat 32 i.val := by
  unfold firstWord
  pointwise
  rw [h]
  refine Routing.wrap_of_lt _ _ ?_
  rw [BitVec.toNat_ofNat, Nat.mod_eq_of_lt (by omega)]
  omega

/-- The columns as the second index words, a negative one counted from the end. -/
def secondWord (I : IVec S4096x500 32) : IVec S4096x500x1 32 :=
  broadcastInDim S4096x500x1 ![0, 1] bcast_S4096x500_S4096x500x1_0_1
    (select (cmpi .slt I (broadcastInDim S4096x500 ![] bcast_S_S4096x500 (constantI S_ 32 0#32)))
      (addi I (broadcastInDim S4096x500 ![] bcast_S_S4096x500 (constantI S_ 32 5000#32))) I)

theorem secondWord_at (I : IVec S4096x500 32) (i : Fin 4096) (q : Fin 500) (j : Fin 5000) (h : I (ix2 i q) = BitVec.ofNat 32 j.val) :
    secondWord I (ix3 i q 0) = BitVec.ofNat 32 j.val := by
  unfold secondWord
  pointwise
  rw [h]
  refine Routing.wrap_of_lt _ _ ?_
  rw [BitVec.toNat_ofNat, Nat.mod_eq_of_lt (by omega)]
  omega

/-- The pairs of index words. -/
def pairs (A B : IVec S4096x500x1 32) : IVec S4096x500x2 32 :=
  concatenate S4096x500x2 2 [⟨S4096x500x1, A⟩, ⟨S4096x500x1, B⟩] concatenates_S4096x500x1_S4096x500x1_S4096x500x2_d2

theorem pairs_fst (A B : IVec S4096x500x1 32) (i : Fin 4096) (q : Fin 500) : pairs A B (ix3 i q 0) = A (ix3 i q 0) := by
  unfold pairs
  pointwise

theorem pairs_snd (A B : IVec S4096x500x1 32) (i : Fin 4096) (q : Fin 500) : pairs A B (ix3 i q 1) = B (ix3 i q 0) := by
  unfold pairs
  pointwise

/-- Zeros with ones set at the pairs of index words. -/
def maskAt (W : IVec S4096x500x2 32) : FVec Ideal S4096x5000 .f32 :=
  Host.scatter scatter_S4096x5000_S4096x500x2_S4096x500_n_01_01_2 (fun _ b => b)
    (broadcastInDim S4096x5000 ![] bcast_S_S4096x5000 (constant S_ .f32 0x00000000#32)) W
    (broadcastInDim S4096x500 ![] bcast_S_S4096x500 (constant S_ .f32 0x3F800000#32))

theorem ofBits_one : Ideal.ofBits .f32 0x3F800000#32 = 1 := by
  rw [ofBits_pos 127 0 (by decide) (by decide) (by decide) (by decide) (by decide)]
  norm_num

theorem ofBits_zero : Ideal.ofBits .f32 0x00000000#32 = 0 := by
  unfold Ideal.ofBits Ideal.ieee
  simp

/-- The mask of the columns `g i q` of every row `i`. -/
theorem maskAt_at (W : IVec S4096x500x2 32) (g : Fin 4096 → Fin 500 → Fin 5000)
    (h0 : ∀ i q, W (ix3 i q 0) = BitVec.ofNat 32 i.val) (h1 : ∀ i q, W (ix3 i q 1) = BitVec.ofNat 32 (g i q).val)
    (i : Fin 4096) (j : Fin 5000) : maskAt W (ix2 i j) = bit (∃ q, g i q = j) := by
  have lands : ∀ (a : Fin 4096) (b : Fin 500), scatter_S4096x5000_S4096x500x2_S4096x500_n_01_01_2.resultIdx? (ix2 a b) W = some (ix2 i j)
      ↔ a = i ∧ g a b = j := by
    intro a b
    refine (Routing.scatter_lands2 (R := 4096) (C := 5000) (A := 4096) (B := 500) scatter_S4096x5000_S4096x500x2_S4096x500_n_01_01_2
      rfl rfl rfl W a b i j).trans ?_
    refine (iff_of_eq (congrArg₂ (fun u v : BitVec 32 => u.toInt = i.val ∧ v.toInt = j.val) (h0 a b) (h1 a b))).trans ?_
    rw [StableHlo.Predicate.toInt_ofNat_small _ (by omega),
      StableHlo.Predicate.toInt_ofNat_small _ (by omega)]
    constructor
    · rintro ⟨e1, e2⟩
      exact ⟨Fin.ext (by omega), Fin.ext (by omega)⟩
    · rintro ⟨rfl, rfl⟩
      exact ⟨rfl, rfl⟩
  unfold maskAt
  by_cases h : ∃ q, g i q = j
  · obtain ⟨q, hq⟩ := h
    refine (Routing.scatter_set_hit _ _ _ _ _ 1 (fun k _ => ofBits_one) (ix2 i q) ((lands i q).mpr ⟨rfl, hq⟩)).trans ?_
    unfold bit
    rw [if_pos ⟨q, hq⟩]
  · rw [Routing.scatter_set_miss _ _ _ _ _ (fun k hk => ?_)]
    · unfold bit
      rw [if_neg h]
      exact ofBits_zero
    · have hk' : k = ix2 (k 0) (k 1) := by
        funext a
        match a with
        | ⟨0, _⟩ => rfl
        | ⟨1, _⟩ => rfl
      rw [hk'] at hk
      obtain ⟨e1, e2⟩ := (lands (k 0) (k 1)).mp hk
      exact h ⟨k 1, e1 ▸ e2⟩

end Cert.ReferenceIdeal.Mask
-- ==== Proof.RLoss.lean ====
/- The reference's result as a function of its arguments, over the extended reals. -/
module

public import proofs.«01_k».proof.Proof.RMask

@[expose] public section

set_option maxRecDepth 16384

noncomputable section

open Idealize.ShloMosaic Idealize.ShloMosaic.TcCoe Idealize.ShloMosaic.Pointwise
open Cert.Spec

namespace Cert.ReferenceIdeal.Loss

open Cert.ReferenceIdeal Cert.ReferenceIdeal.Gen Cert.ReferenceIdeal.Value Cert.ReferenceIdeal.Rows Cert.ReferenceIdeal.Mask
  Idealize.ShloMosaic.StableHlo

/-! ## The similarities -/

/-- The columns' classes. -/
def lab : IVec S5000 32 :=
  shapeCast S5000 (broadcastInDim S1000x5 ![0] bcast_S1000_S1000x5_0 (iotaInDim S1000 32 0)) shapeCasts_S1000x5_S5000

theorem lab_at (j : Fin 5000) : lab (ix1 j) = BitVec.ofNat 32 (j.val / 5) := by
  unfold lab
  pointwise

/-- The centers, each column of length one. -/
def unitCols (C : FVec Ideal S64x5000 .f32) : FVec Ideal S64x5000 .f32 :=
  Host.divf C (broadcastInDim S64x5000 ![0, 1] bcast_S1x5000_S64x5000_0_1 (maximumf
    (broadcastInDim S1x5000 ![] bcast_S_S1x5000 (constant S_ .f32 0x2B8CBCCC#32))
    (Host.sqrt (broadcastInDim S1x5000 ![1] bcast_S5000_S1x5000_1 (Host.reduceAdd (mulf C C) (constant S_ .f32 0x00000000#32)
      reducesTo_S64x5000_S5000_d0 h_S_)))))

theorem unitCols_at (C : FVec Ideal S64x5000 .f32) (d : Fin 64) (j : Fin 5000) :
    unitCols C (ix2 d j) = dir (fun d => C (ix2 d j)) d := by
  unfold unitCols
  pointwise
  rfl

/-- The inputs, each row of length one. -/
def unitRows (X : FVec Ideal S4096x64 .f32) : FVec Ideal S4096x64 .f32 :=
  Host.divf X (broadcastInDim S4096x64 ![0, 1] bcast_S4096x1_S4096x64_0_1 (maximumf
    (broadcastInDim S4096x1 ![] bcast_S_S4096x1 (constant S_ .f32 0x2B8CBCCC#32))
    (Host.sqrt (broadcastInDim S4096x1 ![0] bcast_S4096_S4096x1_0 (Host.reduceAdd (mulf X X) (constant S_ .f32 0x00000000#32)
      reducesTo_S4096x64_S4096_d1 h_S_)))))

theorem unitRows_at (X : FVec Ideal S4096x64 .f32) (i : Fin 4096) (d : Fin 64) :
    unitRows X (ix2 i d) = dir (fun d => X (ix2 i d)) d := by
  unfold unitRows
  pointwise
  rfl

/-- The products of rows with columns. -/
def dots (A : FVec Ideal S4096x64 .f32) (U : FVec Ideal S64x5000 .f32) : FVec Ideal S4096x5000 .f32 :=
  Host.dotGeneral dot_S4096x64_S64x5000_S4096x5000_1_0_0_1_n_n none A U

theorem dots_at (A : FVec Ideal S4096x64 .f32) (U : FVec Ideal S64x5000 .f32) (i : Fin 4096) (j : Fin 5000) :
    dots A U (ix2 i j) = ∑ d, A (ix2 i d) * U (ix2 d j) := by
  unfold dots
  pointwise

/-- The similarities. -/
def sims (X : FVec Ideal S4096x64 .f32) (C : FVec Ideal S64x5000 .f32) : FVec Ideal S4096x5000 .f32 :=
  dots (unitRows X) (unitCols C)

theorem sims_at (X : FVec Ideal S4096x64 .f32) (C : FVec Ideal S64x5000 .f32) (i : Fin 4096) (j : Fin 5000) :
    sims X C (ix2 i j) = sim (fun d => X (ix2 i d)) (fun d => C (ix2 d j)) := by
  unfold sims
  rw [dots_at]
  unfold sim
  simp only [unitRows_at, unitCols_at]

/-- Numbers plus one where the row's label is the column's. -/
def plusHot (S : FVec Ideal S4096x5000 .f32) (T : IVec S4096 32) (L : IVec S5000 32) : FVec Ideal S4096x5000 .f32 :=
  addf S (uitofp .f32 (cmpi .eq (subi
    (broadcastInDim S4096x5000 ![0, 1] bcast_S4096x1_S4096x5000_0_1 (broadcastInDim S4096x1 ![0] bcast_S4096_S4096x1_0 T))
    (broadcastInDim S4096x5000 ![0, 1] bcast_S1x5000_S4096x5000_0_1 (broadcastInDim S1x5000 ![1] bcast_S5000_S1x5000_1 L)))
    (broadcastInDim S4096x5000 ![] bcast_S_S4096x5000 (constantI S_ 32 0#32))))

theorem plusHot_at (S : FVec Ideal S4096x5000 .f32) (T : IVec S4096 32) (L : IVec S5000 32) (i : Fin 4096) (j : Fin 5000) :
    plusHot S T L (ix2 i j) = S (ix2 i j) + bit (L (ix1 j) = T (ix1 i)) := by
  unfold plusHot
  pointwise
  rw [cmpi_eq, flag]
  refine congrArg (S (ix2 i j) + ·) ?_
  unfold bit
  refine if_congr ?_ rfl rfl
  unfold IntOp.subi
  rw [BitVec.sub_eq_iff_eq_add, BitVec.zero_add]
  exact eq_comm

/-- The similarities plus one where the column is of the row's class. -/
def biasedR (X : FVec Ideal S4096x64 .f32) (T : IVec S4096 32) (C : FVec Ideal S64x5000 .f32) : FVec Ideal S4096x5000 .f32 :=
  plusHot (sims X C) T lab

theorem biasedR_at (X : FVec Ideal S4096x64 .f32) (T : IVec S4096 32) (C : FVec Ideal S64x5000 .f32) (i : Fin 4096) (j : Fin 5000) :
    biasedR X T C (ix2 i j) = sim (fun d => X (ix2 i d)) (fun d => C (ix2 d j)) + bit (BitVec.ofNat 32 (j.val / 5) = T (ix1 i)) := by
  unfold biasedR
  rw [plusHot_at, sims_at, lab_at]

/-! ## The logits -/

/-- The 500 greatest columns of every row. -/
def topCols (S : FVec Ideal S4096x5000 .f32) : IVec S4096x500 32 :=
  (Host.topK S4096x500 1 (FloatOps.cmpfTotal .gt) S sliceFits_S4096x5000_S4096x500).2

/-- The mask of the 500 greatest columns of every row. -/
def topMask (S : FVec Ideal S4096x5000 .f32) : FVec Ideal S4096x5000 .f32 :=
  maskAt (pairs (firstWord rowNo) (secondWord (topCols S)))

theorem topMask_at (S : FVec Ideal S4096x5000 .f32) (i : Fin 4096) (j : Fin 5000) :
    topMask S (ix2 i j) = bit (∃ q : Fin 500, ranked (fun j => S (ix2 i j)) ⟨q.val, by omega⟩ = j) :=
  maskAt_at _ (fun i q => ranked (fun j => S (ix2 i j)) ⟨q.val, by omega⟩)
    (fun i q => by rw [pairs_fst, firstWord_at _ _ _ (rowNo_at i)])
    (fun i q => by
      rw [pairs_snd]
      exact secondWord_at _ i q _ (topK_index S sliceFits_S4096x5000_S4096x500 i q (by omega))) i j

/-- The masked similarities summed by class. -/
def pooled (M S : FVec Ideal S4096x5000 .f32) (H : FVec Ideal S5000x1000 .f32) : FVec Ideal S4096x1000 .f32 :=
  Host.dotGeneral dot_S4096x5000_S5000x1000_S4096x1000_1_0_0_1_n_n none (mulf M S) H

theorem pooled_at (M S : FVec Ideal S4096x5000 .f32) (H : FVec Ideal S5000x1000 .f32) (i : Fin 4096) (c : Fin 1000) :
    pooled M S H (ix2 i c) = ∑ j, M (ix2 i j) * S (ix2 i j) * H (ix2 j c) := by
  unfold pooled
  pointwise

/-- The logits. -/
def logitsR (X : FVec Ideal S4096x64 .f32) (T : IVec S4096 32) (C : FVec Ideal S64x5000 .f32) : FVec Ideal S4096x1000 .f32 :=
  pooled (topMask (biasedR X T C)) (sims X C) (hot5000 lab)

/-- The columns' similarities with one another. -/
def gram (U : FVec Ideal S64x5000 .f32) : FVec Ideal S5000x5000 .f32 :=
  Host.dotGeneral dot_S5000x64_S64x5000_S5000x5000_1_0_0_1_n_n none (transpose S5000x64 [1, 0] U transposes_S64x5000_S5000x64_1_0) U

theorem gram_at (U : FVec Ideal S64x5000 .f32) (i j : Fin 5000) : gram U (ix2 i j) = ∑ d, U (ix2 d i) * U (ix2 d j) := by
  unfold gram
  pointwise

/-- Numbers summed by class. -/
def pooledC (G : FVec Ideal S5000x5000 .f32) (H : FVec Ideal S5000x1000 .f32) : FVec Ideal S5000x1000 .f32 :=
  Host.dotGeneral dot_S5000x5000_S5000x1000_S5000x1000_1_0_0_1_n_n none G H

theorem pooledC_at (G : FVec Ideal S5000x5000 .f32) (H : FVec Ideal S5000x1000 .f32) (i : Fin 5000) (c : Fin 1000) :
    pooledC G H (ix2 i c) = ∑ j, G (ix2 i j) * H (ix2 j c) := by
  unfold pooledC
  pointwise

/-- The centers' logits. -/
def logitsC (C : FVec Ideal S64x5000 .f32) : FVec Ideal S5000x1000 .f32 := pooledC (gram (unitCols C)) (hot5000 lab)

theorem logitsC_at (C : FVec Ideal S64x5000 .f32) (i : Fin 5000) (c : Fin 1000) :
    logitsC C (ix2 i c) = ∑ j : Fin 5000, sim (fun d => C (ix2 d i)) (fun d => C (ix2 d j))
      * bit (BitVec.ofNat 32 c.val = BitVec.ofNat 32 (j.val / 5)) := by
  unfold logitsC
  rw [pooledC_at]
  unfold sim
  simp only [gram_at, unitCols_at, hot5000_at, lab_at]

theorem coe_sum {ι : Type} [Fintype ι] (f : ι → ℝ) : ((∑ i, f i : ℝ) : EReal) = ∑ i, (f i : EReal) := by
  classical
  induction (Finset.univ : Finset ι) using Finset.induction_on with
  | empty => simp
  | insert a s ha ih => rw [Finset.sum_insert ha, Finset.sum_insert ha, EReal.coe_add, ih]

theorem cnt4096 : Ideal.ofBits .f32 0x45800000#32 = ((4096 : ℝ) : EReal) := by
  rw [ofBits_pos 139 0 (by decide) (by decide) (by decide) (by decide) (by decide)]
  norm_num
theorem cnt5000 : Ideal.ofBits .f32 0x459C4000#32 = ((5000 : ℝ) : EReal) := by
  rw [ofBits_pos 139 1851392 (by decide) (by decide) (by decide) (by decide) (by decide)]
  norm_num

/-! ## The mean loss of 4096 rows -/

/-- The mean loss of rows with logits `L` and labels `y`. -/
def loss4096 (L : FVec Ideal S4096x1000 .f32) (y : IVec S4096 32) : FVec Ideal S_ .f32 :=
  mean4096 (take4096 (log4096 (shift4096 (score4096 (prob4096 (exp4096 L)) (hot4096 y)))) (start4096 y))

/-- The mean loss is the mean of the rows' losses. -/
theorem loss4096_at (L : FVec Ideal S4096x1000 .f32) (y : IVec S4096 32) (t : Fin 4096 → Fin 1000)
    (hy : ∀ i, y (ix1 i) = BitVec.ofNat 32 (t i).val) (hL : ∀ i c, IsR (L (ix2 i c))) :
    loss4096 L y ix0 = Ideal.div (∑ i : Fin 4096, lossK (scores (fun c => L (ix2 i c)) (y (ix1 i))) (y (ix1 i))) (Ideal.ofBits .f32 0x45800000#32) := by
  have hs : ∀ i c, score4096 (prob4096 (exp4096 L)) (hot4096 y) (ix2 i c) = scores (fun c => L (ix2 i c)) (y (ix1 i)) c := by
    intro i c
    rw [score4096_at, prob4096_at, hot4096_at]
    rfl
  have hr : ∀ i, ∃ r : ℝ, lossK (scores (fun c => L (ix2 i c)) (y (ix1 i))) (y (ix1 i)) = (r : EReal)
      ∧ logp (scores (fun c => L (ix2 i c)) (y (ix1 i))) (t i) = ((-r : ℝ) : EReal) := by
    intro i
    obtain ⟨r, h1, h2⟩ := lossK_eq (by norm_num) (fun c => scores_real (hL i) (y (ix1 i)) c) (t i)
    exact ⟨r, by rw [← h1, ← hy i], h2⟩
  choose r h1 h2 using hr
  have ht : ∀ i, take4096 (log4096 (shift4096 (score4096 (prob4096 (exp4096 L)) (hot4096 y)))) (start4096 y) (ix2 i 0) = ((-(r i) : ℝ) : EReal) := by
    intro i
    rw [take4096_at _ _ i (t i) (start4096_at y i (t i) (hy i)), log4096_at, ← h2 i]
    simp only [hs]
  unfold loss4096
  rw [mean4096_at]
  simp only [ht, h1]
  have e1 : ∑ i, ((-(r i) : ℝ) : EReal) = ((-(∑ i, r i) : ℝ) : EReal) := by
    rw [← Finset.sum_neg_distrib, coe_sum]
  rw [e1, ← coe_sum, cnt4096, div_coe (by norm_num), div_coe (by norm_num), ← EReal.coe_neg]
  refine congrArg _ ?_
  ring

/-! ## The mean loss of 5000 rows -/

/-- The mean loss of rows with logits `L` and labels `y`. -/
def loss5000 (L : FVec Ideal S5000x1000 .f32) (y : IVec S5000 32) : FVec Ideal S_ .f32 :=
  mean5000 (take5000 (log5000 (shift5000 (score5000 (prob5000 (exp5000 L)) (hot5000 y)))) (start5000 y))

/-- The mean loss is the mean of the rows' losses. -/
theorem loss5000_at (L : FVec Ideal S5000x1000 .f32) (y : IVec S5000 32) (t : Fin 5000 → Fin 1000)
    (hy : ∀ i, y (ix1 i) = BitVec.ofNat 32 (t i).val) (hL : ∀ i c, IsR (L (ix2 i c))) :
    loss5000 L y ix0 = Ideal.div (∑ i : Fin 5000, lossK (scores (fun c => L (ix2 i c)) (y (ix1 i))) (y (ix1 i))) (Ideal.ofBits .f32 0x459C4000#32) := by
  have hs : ∀ i c, score5000 (prob5000 (exp5000 L)) (hot5000 y) (ix2 i c) = scores (fun c => L (ix2 i c)) (y (ix1 i)) c := by
    intro i c
    rw [score5000_at, prob5000_at, hot5000_at]
    rfl
  have hr : ∀ i, ∃ r : ℝ, lossK (scores (fun c => L (ix2 i c)) (y (ix1 i))) (y (ix1 i)) = (r : EReal)
      ∧ logp (scores (fun c => L (ix2 i c)) (y (ix1 i))) (t i) = ((-r : ℝ) : EReal) := by
    intro i
    obtain ⟨r, h1, h2⟩ := lossK_eq (by norm_num) (fun c => scores_real (hL i) (y (ix1 i)) c) (t i)
    exact ⟨r, by rw [← h1, ← hy i], h2⟩
  choose r h1 h2 using hr
  have ht : ∀ i, take5000 (log5000 (shift5000 (score5000 (prob5000 (exp5000 L)) (hot5000 y)))) (start5000 y) (ix2 i 0) = ((-(r i) : ℝ) : EReal) := by
    intro i
    rw [take5000_at _ _ i (t i) (start5000_at y i (t i) (hy i)), log5000_at, ← h2 i]
    simp only [hs]
  unfold loss5000
  rw [mean5000_at]
  simp only [ht, h1]
  have e1 : ∑ i, ((-(r i) : ℝ) : EReal) = ((-(∑ i, r i) : ℝ) : EReal) := by
    rw [← Finset.sum_neg_distrib, coe_sum]
  rw [e1, ← coe_sum, cnt5000, div_coe (by norm_num), div_coe (by norm_num), ← EReal.coe_neg]
  refine congrArg _ ?_
  ring

/-! ## The composed terms -/

variable (V : Valuation τ sig (Elt Ideal))

/-- The inputs among a device's contents. -/
def inX : FVec Ideal S4096x64 .f32 := V (Proc.devRef .tc main_arg0)
/-- The targets among a device's contents. -/
def inT : IVec S4096 32 := V (Proc.devRef .tc main_arg1)
/-- The centers among a device's contents. -/
def inC : FVec Ideal S64x5000 .f32 := V (Proc.devRef .tc main_arg2)

theorem v2_eq : res_main_v2 V = lab := rfl
theorem v3_eq : res_main_v3 V = hot5000 (res_main_v2 V) := rfl
theorem v10_eq : res_main_v10 V = unitCols (inC V) := rfl
theorem v18_eq : res_main_v18 V = dots (unitRows (inX V)) (res_main_v10 V) := rfl
theorem v27_eq : res_main_v27 V = plusHot (res_main_v18 V) (inT V) (res_main_v2 V) := rfl
theorem indices_eq : res_main_indices V = topCols (res_main_v27 V) := rfl
theorem v30_eq : res_main_v30 V = rowNo := rfl
theorem v48_eq : res_main_v48 V
    = pooled (maskAt (pairs (firstWord (res_main_v30 V)) (secondWord (res_main_indices V)))) (res_main_v18 V) (res_main_v3 V) := rfl
theorem v57_eq : res_main_v57 V = exp4096 (res_main_v48 V) := rfl
theorem v63_eq : res_main_v63 V = prob4096 (res_main_v57 V) := rfl
theorem v64_eq : res_main_v64 V = hot4096 (inT V) := rfl
theorem v88_eq : res_main_v88 V = score4096 (res_main_v63 V) (res_main_v64 V) := rfl
theorem call6_eq : res_main_call6_v5 V = shift4096 (res_main_v88 V) := rfl
theorem call7_eq : res_main_call7_v5 V = start4096 (inT V) := rfl
theorem v97_eq : res_main_v97 V = pooledC (gram (res_main_v10 V)) (res_main_v3 V) := rfl
theorem v106_eq : res_main_v106 V = exp5000 (res_main_v97 V) := rfl
theorem v112_eq : res_main_v112 V = prob5000 (res_main_v106 V) := rfl
theorem v113_eq : res_main_v113 V = hot5000 (res_main_v2 V) := rfl
theorem v137_eq : res_main_v137 V = score5000 (res_main_v112 V) (res_main_v113 V) := rfl
theorem call11_eq : res_main_call11_v5 V = shift5000 (res_main_v137 V) := rfl
theorem call12_eq : res_main_call12_v5 V = start5000 (res_main_v2 V) := rfl

/-- The logits' buffer. -/
theorem v48_logits : res_main_v48 V = logitsR (inX V) (inT V) (inC V) := by
  rw [v48_eq, v30_eq, indices_eq, v27_eq, v18_eq, v10_eq, v3_eq, v2_eq]
  rfl

/-- The centers' logits' buffer. -/
theorem v97_logits : res_main_v97 V = logitsC (inC V) := by
  rw [v97_eq, v10_eq, v3_eq, v2_eq]
  rfl

/-- The log-probabilities' argument, from the logits. -/
theorem call6_shift : res_main_call6_v5 V
    = shift4096 (score4096 (prob4096 (exp4096 (logitsR (inX V) (inT V) (inC V)))) (hot4096 (inT V))) := by
  rw [call6_eq, v88_eq, v63_eq, v64_eq, v57_eq, v48_logits]

theorem call11_shift : res_main_call11_v5 V = shift5000 (score5000 (prob5000 (exp5000 (logitsC (inC V)))) (hot5000 lab)) := by
  rw [call11_eq, v137_eq, v112_eq, v113_eq, v106_eq, v97_logits, v2_eq]

theorem call12_start : res_main_call12_v5 V = start5000 lab := by rw [call12_eq, v2_eq]

/-- The weighted sum of the two mean losses. -/
def total (a b : FVec Ideal S_ .f32) : FVec Ideal S_ .f32 := addf a (mulf (constant S_ .f32 0x3CF5C28F#32) b)

theorem total_at (a b : FVec Ideal S_ .f32) : total a b ix0 = a ix0 + Ideal.ofBits .f32 0x3CF5C28F#32 * b ix0 := by
  unfold total
  pointwise

end Cert.ReferenceIdeal.Loss
-- ==== Proof.RShare.lean ====
/- The reference's second result: the share of the rows whose greatest score is the target's. -/
module

public import proofs.«01_k».proof.Proof.RLoss

@[expose] public section

set_option maxRecDepth 16384

noncomputable section

open Idealize.ShloMosaic Idealize.ShloMosaic.TcCoe Idealize.ShloMosaic.Pointwise
open Cert.Spec

namespace Cert.ReferenceIdeal.Share

open Cert.ReferenceIdeal Cert.ReferenceIdeal.Gen Cert.ReferenceIdeal.Value Cert.ReferenceIdeal.Rows Cert.ReferenceIdeal.Mask
  Cert.ReferenceIdeal.Loss Idealize.ShloMosaic.StableHlo

/-- The classes of a row of scores, the greatest score first. -/
def order (s : Fin 1000 → EReal) : Fin 1000 → Fin 1000 :=
  sortedFrom fun k k' => (FloatOps.cmpfTotal (F := Ideal) (φ := .f32) CmpDirection.gt (s k) (s k') : BitVec 1) == 1#1

/-- The first class's score is the greatest. -/
theorem order_first (s : Fin 1000 → EReal) (c : Fin 1000) : s c ≤ s (order s ⟨0, by omega⟩) := by
  have e : order s = sortedFrom fun k k' => decide (s k' < s k) := by
    unfold order
    simp only [before_iff]
  obtain ⟨q, hq⟩ : ∃ q, order s q = c := sortedFrom_surjective _ c
  rcases Nat.eq_zero_or_pos q.val with h0 | h0
  · rw [← hq, show q = ⟨0, by omega⟩ from Fin.ext h0]
  · have := sortedFrom_noInversion (fun k k' => decide (s k' < s k)) (fun k k' => decide (s k' < s k))
      (fun a b hab => by simp only [decide_eq_true_eq, decide_eq_false_iff_not] at hab ⊢; exact not_lt.mpr hab.le)
      (fun a b hab => hab)
      (fun a b c hab hbc => by
        simp only [decide_eq_false_iff_not, not_lt] at hab hbc ⊢; exact hab.trans hbc) ⟨0, by omega⟩ q (Fin.lt_def.mpr h0)
    rw [← e, hq] at this
    simpa using this

theorem along_row (i : Fin 4096) (j k : Fin 1000) (h : 1 < 2) :
    Shape.Idx.along (s := S4096x1000) (ix2 i j) (⟨1, h⟩ : Fin 2) k = ix2 i k := by
  funext a
  match a with
  | ⟨0, _⟩ => rfl
  | ⟨1, _⟩ => rfl

/-- The class of the greatest score of every row. -/
def firstCol (o : FVec Ideal S4096x1000 .f32) : IVec S4096x1 32 :=
  (Host.topK S4096x1 1 (FloatOps.cmpfTotal .gt) o sliceFits_S4096x1000_S4096x1).2

theorem slice_first {α : Type} (y : S4096x1000.Idx → α) (h : S4096x1000.Slices (fun _ => 0) S4096x1) (i : Fin 4096) :
    extractStridedSlice S4096x1 (fun _ => 0) y h (ix2 i 0) = y (ix2 i ⟨0, by omega⟩) := by
  unfold extractStridedSlice
  refine congrArg y (funext fun a => ?_)
  match a with
  | ⟨0, _⟩ => exact Fin.ext (Nat.zero_add _)
  | ⟨1, _⟩ => exact Fin.ext (Nat.zero_add _)

theorem firstCol_at (o : FVec Ideal S4096x1000 .f32) (i : Fin 4096) :
    firstCol o (ix2 i 0) = BitVec.ofNat 32 (order (fun c => o (ix2 i c)) ⟨0, by omega⟩).val := by
  unfold firstCol Host.topK Host.sort2
  have e : 1 < S4096x1000.rank := by decide
  dsimp only
  simp only [dif_pos e]
  rw [slice_first _ _ i]
  have e1 : ∀ k : Fin (S4096x1000.size ⟨1, e⟩), Shape.Idx.along (s := S4096x1000) (ix2 i ⟨0, by omega⟩) ⟨1, e⟩ k = ix2 i k :=
    fun k => along_row i _ k e
  simp only [e1]
  rfl

/-- The share of the rows, in hundredths, whose class in `J` is their target. -/
def hits (J : IVec S4096x1 32) (T : IVec S4096 32) : FVec Ideal S_ .f32 :=
  mulf (Host.divf (Host.reduceAdd (uitofp .f32 (cmpi .eq (shapeCast S4096 J shapeCasts_S4096x1_S4096) T)) (constant S_ .f32 0x00000000#32)
    reducesTo_S4096_S_d0 h_S_) (constant S_ .f32 0x45800000#32)) (constant S_ .f32 0x42C80000#32)

theorem hits_at (J : IVec S4096x1 32) (T : IVec S4096 32) :
    hits J T ix0 = Ideal.div (∑ i : Fin 4096, bit (J (ix2 i 0) = T (ix1 i))) (Ideal.ofBits .f32 0x45800000#32) * Ideal.ofBits .f32 0x42C80000#32 := by
  unfold hits
  pointwise
  simp only [cmpi_eq, flag]

/-- The scores of the rows with logits `L` and labels `y`. -/
def outs (L : FVec Ideal S4096x1000 .f32) (y : IVec S4096 32) : FVec Ideal S4096x1000 .f32 :=
  score4096 (prob4096 (exp4096 L)) (hot4096 y)

theorem outs_at (L : FVec Ideal S4096x1000 .f32) (y : IVec S4096 32) (i : Fin 4096) (c : Fin 1000) :
    outs L y (ix2 i c) = scores (fun c => L (ix2 i c)) (y (ix1 i)) c := by
  unfold outs
  rw [score4096_at, prob4096_at, hot4096_at]
  rfl

/-- A sum against a class's indicator is the class's term. -/
theorem sum_pick (s : Fin 1000 → EReal) (t : Fin 1000) :
    ∑ x : Fin 1000, bit (BitVec.ofNat 32 x.val = BitVec.ofNat 32 t.val) * s x = s t := by
  rw [Finset.sum_eq_single t]
  · unfold bit
    rw [if_pos rfl, one_mul]
  · intro x _ hx
    unfold bit
    rw [if_neg, zero_mul]
    intro h
    have := congrArg BitVec.toNat h
    simp only [BitVec.toNat_ofNat] at this
    exact hx (Fin.ext (by omega))
  · intro h
    exact absurd (Finset.mem_univ t) h

/-- Where no other class has the target's score, the first class is the target exactly where the target's score is the greatest. -/
theorem first_wins (s : Fin 1000 → EReal) (t : Fin 1000) (ht : ∀ c, c ≠ t → s c ≠ s t) :
    bit (BitVec.ofNat 32 (order s ⟨0, by omega⟩).val = BitVec.ofNat 32 t.val) = wins s (BitVec.ofNat 32 t.val) := by
  unfold wins
  rw [sum_pick]
  unfold bit
  refine if_congr ?_ rfl rfl
  unfold top
  rw [Finset.fold_max_le]
  constructor
  · intro h
    have ho : order s ⟨0, by omega⟩ = t := by
      have := congrArg BitVec.toNat h
      simp only [BitVec.toNat_ofNat] at this
      exact Fin.ext (by omega)
    refine ⟨bot_le, fun c _ => ?_⟩
    have := order_first s c
    rwa [ho] at this
  · rintro ⟨_, h⟩
    by_contra hc
    refine ht (order s ⟨0, by omega⟩) (fun he => hc (by rw [he])) (le_antisymm (h _ (Finset.mem_univ _)) (order_first s t))

end Cert.ReferenceIdeal.Share
-- ==== Proof.Rank.lean ====
/- Counting in an order of numbers: running sums, the crossing of two rates, and the labels before a place. -/
module

public import proofs.«01_k».proof.Proof.Spec
public import Idealize.ShloMosaic.Lib.SortFacts

@[expose] public section

set_option maxRecDepth 16384

noncomputable section

open Idealize.ShloMosaic Idealize.ShloMosaic.TcCoe Idealize.ShloMosaic.Pointwise
open Cert.Spec

namespace Cert.Rank

/-- In an order in which the numbers fall, the labelled ones among the first `m` are the labelled positive ones, when no labelled
    number is zero, at most `m` are positive and at least `m` are not negative. -/
theorem first_labels {N : ℕ} (s : Fin N → EReal) (f : Fin N → Fin N) (hf : Function.Bijective f)
    (ha : ∀ i j, i < j → s (f j) ≤ s (f i)) (L : Fin N → Prop) [DecidablePred L] (h0 : ∀ k, L k → s k ≠ 0) (m : ℕ)
    (hp : (Finset.univ.filter fun k => 0 < s k).card ≤ m) (hn : m ≤ (Finset.univ.filter fun k => 0 ≤ s k).card) :
    (Finset.univ.filter fun j : Fin N => j.val < m ∧ L (f j)).card = (Finset.univ.filter fun k => L k ∧ 0 < s k).card := by
  classical
  have anti : ∀ i j : Fin N, i ≤ j → s (f j) ≤ s (f i) := by
    intro i j h
    rcases h.lt_or_eq with h | rfl
    · exact ha i j h
    · exact le_rfl
  refine Finset.card_bij (fun j _ => f j) ?_ (fun a _ b _ h => hf.1 h) ?_
  · intro j hj
    obtain ⟨hjm, hL⟩ := (Finset.mem_filter.mp hj).2
    refine Finset.mem_filter.mpr ⟨Finset.mem_univ _, hL, ?_⟩
    by_contra hc
    have hlt : s (f j) < 0 := lt_of_le_of_ne (not_lt.mp hc) (h0 _ hL)
    have hsub : (Finset.univ.filter fun k => 0 ≤ s k) ⊆ (Finset.univ.filter fun j' : Fin N => j' < j).image f := by
      intro k hk
      obtain ⟨j', rfl⟩ := hf.2 k
      refine Finset.mem_image.mpr ⟨j', Finset.mem_filter.mpr ⟨Finset.mem_univ _, ?_⟩, rfl⟩
      by_contra hq
      exact absurd (lt_of_le_of_lt (anti j j' (not_lt.mp hq)) hlt) (not_lt.mpr (Finset.mem_filter.mp hk).2)
    have h1 := (Finset.card_le_card hsub).trans Finset.card_image_le
    rw [Finset.filter_gt_eq_Iio, Fin.card_Iio] at h1
    omega
  · intro k hk
    obtain ⟨hL, hs⟩ := (Finset.mem_filter.mp hk).2
    obtain ⟨j, rfl⟩ := hf.2 k
    refine ⟨j, Finset.mem_filter.mpr ⟨Finset.mem_univ _, ?_, hL⟩, rfl⟩
    by_contra hc
    have hsub : (Finset.univ.filter fun j' : Fin N => j' ≤ j).image f ⊆ Finset.univ.filter fun k => 0 < s k := by
      intro k hk
      obtain ⟨j', hj', rfl⟩ := Finset.mem_image.mp hk
      exact Finset.mem_filter.mpr ⟨Finset.mem_univ _, lt_of_lt_of_le hs (anti j' j (Finset.mem_filter.mp hj').2)⟩
    have h1 := Finset.card_le_card hsub
    rw [Finset.card_image_of_injective _ hf.1, Finset.filter_ge_eq_Iic, Fin.card_Iic] at h1
    omega

/-- Two running counts, one of which grows at every step, balance at one place only. -/
theorem balance_unique {N : ℕ} (p q : Fin N → ℕ) (hpq : ∀ k, p k + q k = k.val + 1) (hp : ∀ i j, i ≤ j → p i ≤ p j)
    (hq : ∀ i j, i ≤ j → q i ≤ q j) (a b : Fin N) (c : ℕ) (ha : q a + 999 * p a = c) (hb : q b + 999 * p b = c) : a = b := by
  rcases lt_trichotomy a b with h | h | h
  · have h1 := hp _ _ h.le
    have h2 := hq _ _ h.le
    have h3 := hpq a
    have h4 := hpq b
    have : a.val < b.val := h
    omega
  · exact h
  · have h1 := hp _ _ h.le
    have h2 := hq _ _ h.le
    have h3 := hpq a
    have h4 := hpq b
    have : b.val < a.val := h
    omega

/-- A sum over a flat index is the sum over its rows and columns. -/
theorem sum_flat {M : Type} [AddCommMonoid M] {n m N : ℕ} (h : N = n * m) (hm : 0 < m) (g : Fin n → Fin m → M) :
    ∑ k : Fin N, g ⟨k.val / m, Nat.div_lt_of_lt_mul (Nat.lt_of_lt_of_eq k.isLt (h.trans (Nat.mul_comm n m)))⟩ ⟨k.val % m, Nat.mod_lt _ hm⟩
      = ∑ i, ∑ j, g i j := by
  subst h
  rw [← Fintype.sum_prod_type']
  exact Fintype.sum_equiv finProdFinEquiv.symm _ (fun p => g p.1 p.2) (fun k => rfl)

/-- A sum of indicators is a count. -/
theorem sum_bit {ι : Type} [Fintype ι] (P : ι → Prop) [DecidablePred P] :
    ∑ k, bit (P k) = (((Finset.univ.filter P).card : ℝ) : EReal) := by
  classical
  rw [Finset.card_filter, Nat.cast_sum]
  have e : ∀ k, bit (P k) = (((if P k then 1 else 0 : ℕ) : ℝ) : EReal) := by
    intro k
    unfold bit
    split <;> simp
  rw [Finset.sum_congr rfl fun k _ => e k]
  exact (map_sum (⟨⟨Real.toEReal, rfl⟩, EReal.coe_add⟩ : ℝ →+ EReal) _ _).symm

/-- A left fold of sums is the starting number plus the sum. -/
theorem fold_add {n : ℕ} (g : Fin n → EReal) (v : EReal) : (List.finRange n).foldl (fun r k => r + g k) v = v + ∑ k, g k := by
  have : ∀ (l : List (Fin n)) (v : EReal), l.foldl (fun r k => r + g k) v = v + (l.map g).sum := by
    intro l
    induction l with
    | nil => intro v; simp
    | cons a l ih => intro v; rw [List.foldl_cons, ih, List.map_cons, List.sum_cons, add_assoc]
  rw [this, ← List.ofFn_eq_map, List.sum_ofFn]

/-- A rank-one array's row-major place is its index. -/
theorem place_one {N : ℕ} (n : Fin (⟨1, ![N]⟩ : Shape).numel) (a : Fin 1) : ((⟨1, ![N]⟩ : Shape).rowMajor.symm n a).val = n.val := by
  obtain rfl : a = 0 := Subsingleton.elim _ _
  have := rowMajor_val1 ((⟨1, ![N]⟩ : Shape).rowMajor.symm n)
  rw [Equiv.apply_symm_apply] at this
  exact this.symm

/-- A window sum over the whole length, padded below with zeros, is the running sum. -/
theorem running_sum {N M : ℕ} (hN : M + 1 = N) (x : FVec Ideal ⟨1, ![N]⟩ .f32) (init : FVec Ideal ⟨0, ![]⟩ .f32) (hi : ∀ z, init z = 0)
    (h : (⟨1, ![N]⟩ : Shape).ReduceWindows ![N] ![1] ![M] ![0] ⟨1, ![N]⟩) (hu : 0 < (⟨0, ![]⟩ : Shape).numel) (j : Fin N) :
    Host.reduceWindowAdd ![N] ![1] ![M] ![0] x init h hu (ix1 j) = ∑ i ∈ Finset.univ.filter (· ≤ j), x (ix1 i) := by
  classical
  subst hN
  unfold Host.reduceWindowAdd
  rw [Ideal.hostReduceWindowAdd_def, hi]
  unfold Ideal.hostReduceWindowAdd Host.reduceWindow
  dsimp only
  refine (fold_add _ _).trans ?_
  rw [zero_add]
  have hnum : (⟨1, ![M + 1]⟩ : Shape).numel = M + 1 := by simp [Shape.numel]
  have hj := j.isLt
  refine (Finset.sum_subset (Finset.subset_univ (Finset.univ.filter fun n => M ≤ j.val + n.val)) ?_).symm.trans ?_
  · intro n _ hn
    rw [dif_neg]
    intro hin
    refine hn (Finset.mem_filter.mpr ⟨Finset.mem_univ _, ?_⟩)
    have := (hin 0).1
    change M ≤ j.val * 1 + ((⟨1, ![M + 1]⟩ : Shape).rowMajor.symm n 0).val at this
    rw [place_one] at this
    omega
  · have hlt : ∀ n : Fin (⟨1, ![M + 1]⟩ : Shape).numel, n.val < M + 1 := fun n => lt_of_lt_of_eq n.isLt hnum
    refine Finset.sum_bij (fun n hn => ⟨j.val + n.val - M, by have := hlt n; omega⟩) ?_ ?_ ?_ ?_
    · intro n hn
      have := hlt n
      exact Finset.mem_filter.mpr ⟨Finset.mem_univ _, Fin.le_def.mpr (by dsimp only; omega)⟩
    · intro a ha b hb hab
      have h1 := (Finset.mem_filter.mp ha).2
      have h2 := (Finset.mem_filter.mp hb).2
      have := congrArg Fin.val hab
      dsimp only at this
      exact Fin.ext (by omega)
    · intro i hi
      have := Fin.le_def.mp (Finset.mem_filter.mp hi).2
      refine ⟨⟨i.val + M - j.val, by rw [hnum]; omega⟩, Finset.mem_filter.mpr ⟨Finset.mem_univ _, by dsimp only; omega⟩, Fin.ext ?_⟩
      dsimp only
      omega
    · intro n hn
      have h1 := (Finset.mem_filter.mp hn).2
      have h2 := hlt n
      rw [dif_pos]
      · refine congrArg x (funext fun a => Fin.ext ?_)
        obtain rfl : a = 0 := Subsingleton.elim _ _
        show j.val * 1 + ((⟨1, ![M + 1]⟩ : Shape).rowMajor.symm n 0).val - M = j.val + n.val - M
        rw [place_one, Nat.mul_one]
      · intro a
        obtain rfl : a = 0 := Subsingleton.elim _ _
        show M ≤ j.val * 1 + ((⟨1, ![M + 1]⟩ : Shape).rowMajor.symm n 0).val
          ∧ j.val * 1 + ((⟨1, ![M + 1]⟩ : Shape).rowMajor.symm n 0).val - M < M + 1
        rw [place_one]
        omega

end Cert.Rank
-- ==== Proof.Meet.lean ====
/- Where the two error rates of 4096 rows of 1000 scores meet. -/
module

public import proofs.«01_k».proof.Proof.Rank

@[expose] public section

set_option maxRecDepth 16384

noncomputable section

open Idealize.ShloMosaic Idealize.ShloMosaic.TcCoe Idealize.ShloMosaic.Pointwise
open Cert.Spec

namespace Cert.Meet

open Cert.Rank

/-- The row of a flat place. -/
def row (k : Fin 4096000) : Fin 4096 :=
  ⟨k.val / 1000, Nat.div_lt_of_lt_mul (Nat.lt_of_lt_of_eq k.isLt ((by norm_num : 4096000 = 4096 * 1000).trans (Nat.mul_comm 4096 1000)))⟩
/-- The column of a flat place. -/
def col (k : Fin 4096000) : Fin 1000 := ⟨k.val % 1000, Nat.mod_lt _ (by norm_num)⟩

/-- A sum over the flat places is the sum over the rows and columns. -/
theorem sum_places {M : Type} [AddCommMonoid M] (g : Fin 4096 → Fin 1000 → M) : ∑ k, g (row k) (col k) = ∑ i, ∑ c, g i c :=
  sum_flat (by norm_num : 4096000 = 4096 * 1000) (by norm_num) g

theorem count_places (p : Fin 4096 → Fin 1000 → Prop) [∀ i c, Decidable (p i c)] :
    (Finset.univ.filter fun k => p (row k) (col k)).card = ∑ i, (Finset.univ.filter (p i)).card := by
  simp only [Finset.card_filter]
  exact sum_places fun i c => if p i c then 1 else 0

/-- The flat places in a row's column of its own are as many as the rows. -/
theorem count_own (t : Fin 4096 → Fin 1000) : (Finset.univ.filter fun k => col k = t (row k)).card = 4096 := by
  rw [count_places fun i c => c = t i]
  have : ∀ i, (Finset.univ.filter fun c => c = t i).card = 1 := fun i => by
    rw [Finset.filter_eq' Finset.univ (t i), if_pos (Finset.mem_univ _), Finset.card_singleton]
  rw [Finset.sum_congr rfl fun i _ => this i]
  simp

/-- Those of them with a positive number are as many as the rows whose own number is positive. -/
theorem count_own_pos (s : Fin 4096 → Fin 1000 → EReal) (t : Fin 4096 → Fin 1000) :
    (Finset.univ.filter fun k => col k = t (row k) ∧ 0 < s (row k) (col k)).card = (Finset.univ.filter fun i => 0 < s i (t i)).card := by
  rw [count_places fun i c => c = t i ∧ 0 < s i c, Finset.card_filter]
  refine Finset.sum_congr rfl fun i _ => ?_
  by_cases h : 0 < s i (t i)
  · rw [if_pos h]
    have : (Finset.univ.filter fun c => c = t i ∧ 0 < s i c) = {t i} := by
      ext c
      simp only [Finset.mem_filter, Finset.mem_univ, true_and, Finset.mem_singleton]
      exact ⟨fun h => h.1, fun hc => ⟨hc, by rw [hc]; exact h⟩⟩
    rw [this, Finset.card_singleton]
  · rw [if_neg h]
    refine Finset.card_eq_zero.mpr (Finset.filter_eq_empty_iff.mpr fun c _ hc => h ?_)
    have := hc.2
    rwa [hc.1] at this

theorem card_split {ι : Type} [Fintype ι] (p q : ι → Prop) [DecidablePred p] [DecidablePred q] :
    (Finset.univ.filter q).card = (Finset.univ.filter fun k => p k ∧ q k).card + (Finset.univ.filter fun k => ¬ p k ∧ q k).card := by
  classical
  rw [← Finset.card_filter_add_card_filter_not (s := Finset.univ.filter q) p, Finset.filter_filter, Finset.filter_filter]
  congr 2
  · exact Finset.filter_congr fun k _ => and_comm
  · exact Finset.filter_congr fun k _ => and_comm

/-- The labelled among the first places of an order. -/
def seen {N : ℕ} (L : Fin N → Prop) [DecidablePred L] (f : Fin N → Fin N) (j : Fin N) : ℕ :=
  (Finset.univ.filter fun i => i ≤ j ∧ L (f i)).card

theorem seen_mono {N : ℕ} (L : Fin N → Prop) [DecidablePred L] (f : Fin N → Fin N) (i j : Fin N) (h : i ≤ j) : seen L f i ≤ seen L f j :=
  Finset.card_le_card fun k hk => by
    have := (Finset.mem_filter.mp hk).2
    exact Finset.mem_filter.mpr ⟨Finset.mem_univ _, this.1.trans h, this.2⟩

theorem seen_add {N : ℕ} (L : Fin N → Prop) [DecidablePred L] (f : Fin N → Fin N) (j : Fin N) :
    seen L f j + seen (fun k => ¬ L k) f j = j.val + 1 := by
  have h : (Finset.univ.filter fun i : Fin N => i ≤ j).card = j.val + 1 := by
    rw [Finset.filter_ge_eq_Iic, Fin.card_Iic]
  rw [← h, card_split (fun i => L (f i)) fun i => i ≤ j]
  unfold seen
  congr 2
  · exact Finset.filter_congr fun k _ => and_comm
  · exact Finset.filter_congr fun k _ => and_comm

/-- The rates at the place where they differ least: both are one minus the share of the rows whose own number is positive. -/
theorem meet (s : Fin 4096 → Fin 1000 → EReal) (t : Fin 4096 → Fin 1000) (f : Fin 4096000 → Fin 4096000) (hf : Function.Bijective f)
    (ha : ∀ i j, i < j → s (row (f j)) (col (f j)) ≤ s (row (f i)) (col (f i))) (h0 : ∀ i, s i (t i) ≠ 0)
    (hn : ∀ i c, c ≠ t i → 0 ≤ s i c)
    (hc : (Finset.univ.filter fun k => ¬ col k = t (row k) ∧ 0 < s (row k) (col k)).card
      ≤ 999 * (4096 - (Finset.univ.filter fun i => 0 < s i (t i)).card))
    (q : Fin 4096000)
    (hq : ∀ k, |1 - (seen (fun k => col k = t (row k)) f q : ℝ) / 4096 - (seen (fun k => ¬ col k = t (row k)) f q : ℝ) / 4091904|
      ≤ |1 - (seen (fun k => col k = t (row k)) f k : ℝ) / 4096 - (seen (fun k => ¬ col k = t (row k)) f k : ℝ) / 4091904|) :
    1 - (seen (fun k => col k = t (row k)) f q : ℝ) / 4096 = 1 - ((Finset.univ.filter fun i => 0 < s i (t i)).card : ℝ) / 4096
      ∧ (seen (fun k => ¬ col k = t (row k)) f q : ℝ) / 4091904 = 1 - ((Finset.univ.filter fun i => 0 < s i (t i)).card : ℝ) / 4096 := by
  set T := (Finset.univ.filter fun i => 0 < s i (t i)).card with hT
  have hT1 : T ≤ 4096 := by
    have := Finset.card_le_univ (Finset.univ.filter fun i => 0 < s i (t i))
    rwa [Fintype.card_fin] at this
  have hpos : (Finset.univ.filter fun k => col k = t (row k) ∧ 0 < s (row k) (col k)).card = T := count_own_pos s t
  have e1 := card_split (fun k => col k = t (row k)) fun k => 0 < s (row k) (col k)
  have e2 := card_split (fun k => col k = t (row k)) fun k => 0 ≤ s (row k) (col k)
  have e3 := card_split (fun k : Fin 4096000 => col k = t (row k)) fun _ => True
  have e4 : (Finset.univ.filter fun k => ¬ col k = t (row k) ∧ 0 ≤ s (row k) (col k)).card
      = (Finset.univ.filter fun k => ¬ col k = t (row k) ∧ True).card := by
    refine congrArg Finset.card (Finset.filter_congr fun k _ => ?_)
    exact ⟨fun h => ⟨h.1, trivial⟩, fun h => ⟨h.1, hn _ _ h.1⟩⟩
  have e5 : (Finset.univ.filter fun k => col k = t (row k) ∧ True).card = 4096 := by
    rw [← count_own t]
    exact congrArg Finset.card (Finset.filter_congr fun k _ => ⟨fun h => h.1, fun h => ⟨h, trivial⟩⟩)
  have e6 : (Finset.univ.filter fun _ : Fin 4096000 => True).card = 4096000 := by
    rw [Finset.filter_true, Finset.card_univ, Fintype.card_fin]
  have e7 : T ≤ (Finset.univ.filter fun k => col k = t (row k) ∧ 0 ≤ s (row k) (col k)).card := by
    rw [← hpos]
    refine Finset.card_le_card fun k hk => ?_
    have := (Finset.mem_filter.mp hk).2
    exact Finset.mem_filter.mpr ⟨Finset.mem_univ _, this.1, this.2.le⟩
  have hl := first_labels (fun k => s (row k) (col k)) f hf ha (fun k => col k = t (row k))
    (fun k hk => by rw [hk]; exact h0 _) (T + 999 * (4096 - T)) (by omega) (by omega)
  rw [hpos] at hl
  have hk0 : T + 999 * (4096 - T) - 1 < 4096000 := by omega
  set k0 : Fin 4096000 := ⟨T + 999 * (4096 - T) - 1, hk0⟩ with hk0'
  have hk1 : k0.val = T + 999 * (4096 - T) - 1 := rfl
  have hs : seen (fun k => col k = t (row k)) f k0 = T := by
    rw [← hl]
    refine congrArg Finset.card (Finset.filter_congr fun j _ => and_congr_left fun _ => ?_)
    rw [Fin.le_def]
    omega
  have hadd0 := seen_add (fun k => col k = t (row k)) f k0
  have hd : seen (fun k => ¬ col k = t (row k)) f k0 = 999 * (4096 - T) := by omega
  have hzero := hq k0
  rw [hs, hd, Nat.cast_mul, Nat.cast_sub hT1] at hzero
  have hz : |1 - (T : ℝ) / 4096 - ((999 : ℕ) : ℝ) * (((4096 : ℕ) : ℝ) - T) / 4091904| = 0 := by
    rw [abs_eq_zero]
    push_cast
    ring
  rw [hz] at hzero
  have hzq := abs_eq_zero.mp (le_antisymm hzero (abs_nonneg _))
  have hb : seen (fun k => ¬ col k = t (row k)) f q + 999 * seen (fun k => col k = t (row k)) f q = 4091904 := by
    have : (seen (fun k => ¬ col k = t (row k)) f q : ℝ) + 999 * (seen (fun k => col k = t (row k)) f q : ℝ) = 4091904 := by
      linarith
    exact_mod_cast this
  have hqk : q = k0 := balance_unique (seen (fun k => col k = t (row k)) f) (seen (fun k => ¬ col k = t (row k)) f) (seen_add _ f)
    (seen_mono _ f) (seen_mono _ f) q k0 4091904 hb (by omega)
  rw [hqk, hs, hd, Nat.cast_mul, Nat.cast_sub hT1]
  refine ⟨rfl, ?_⟩
  push_cast
  ring

end Cert.Meet
-- ==== Proof.REer.lean ====
/- The reference's third result: the rate at which the two error rates of the flat scores meet. -/
module

public import proofs.«01_k».proof.Proof.RShare
public import proofs.«01_k».proof.Proof.Meet
public import Idealize.ShloMosaic.Lib.DynamicIndex

@[expose] public section

set_option maxRecDepth 16384

noncomputable section

open Idealize.ShloMosaic Idealize.ShloMosaic.TcCoe Idealize.ShloMosaic.Pointwise
open Cert.Spec

namespace Cert.ReferenceIdeal.Eer

open Cert.ReferenceIdeal Cert.ReferenceIdeal.Gen Cert.ReferenceIdeal.Value Cert.ReferenceIdeal.Rows Cert.ReferenceIdeal.Mask
  Cert.ReferenceIdeal.Loss Cert.ReferenceIdeal.Share Idealize.ShloMosaic.StableHlo Cert.Rank Cert.Meet

/-! ## Sorting -/

/-- The places of `x` in the order of its numbers, the least first. -/
def rising {N : ℕ} (x : Fin N → EReal) : Fin N → Fin N := sortedFrom fun k k' => decide (x k < x k')

theorem rising_bij {N : ℕ} (x : Fin N → EReal) : Function.Bijective (rising x) := ⟨sortedFrom_injective _, sortedFrom_surjective _⟩

theorem rising_le {N : ℕ} (x : Fin N → EReal) (i j : Fin N) (h : i < j) : x (rising x i) ≤ x (rising x j) := by
  have := sortedFrom_noInversion (fun k k' => decide (x k < x k')) (fun k k' => decide (x k < x k'))
    (fun a b hab => by simp only [decide_eq_true_eq, decide_eq_false_iff_not] at hab ⊢; exact not_lt.mpr hab.le)
    (fun a b hab => hab)
    (fun a b c hab hbc => by simp only [decide_eq_false_iff_not, not_lt] at hab hbc ⊢; exact hbc.trans hab) i j h
  simpa [rising] using this

/-- The least number comes first. -/
theorem rising_first {N : ℕ} (hN : 0 < N) (x : Fin N → EReal) (k : Fin N) : x (rising x ⟨0, hN⟩) ≤ x k := by
  obtain ⟨q, rfl⟩ := (rising_bij x).2 k
  rcases Nat.eq_zero_or_pos q.val with h0 | h0
  · rw [show q = ⟨0, hN⟩ from Fin.ext h0]
  · exact rising_le x _ _ (Fin.lt_def.mpr h0)

theorem along_one {N : ℕ} (j k : Fin N) (h : 0 < 1) : Shape.Idx.along (s := (⟨1, ![N]⟩ : Shape)) (ix1 j) (⟨0, h⟩ : Fin 1) k = ix1 k := by
  funext a
  obtain rfl : a = 0 := Subsingleton.elim _ _
  rfl

/-- The sort by a comparison of numbers that carries the places along. -/
theorem sort_places {N : ℕ} (cmp : EReal × BitVec 32 → EReal × BitVec 32 → BitVec 1)
    (hc : ∀ a b u v, (cmp (a, u) (b, v) == 1#1) = decide (a < b)) (x : FVec Ideal ⟨1, ![N]⟩ .f32) (w : IVec ⟨1, ![N]⟩ 32) (j : Fin N) :
    (Host.sort2 ⟨1, ![N]⟩ 0 cmp x w).2 (ix1 j) = w (ix1 (rising (fun k => x (ix1 k)) j)) := by
  have e : 0 < (⟨1, ![N]⟩ : Shape).rank := Nat.one_pos
  unfold Host.sort2
  dsimp only
  rw [dif_pos e]
  dsimp only
  simp only [hc]
  have e1 : ∀ k : Fin ((⟨1, ![N]⟩ : Shape).size ⟨0, e⟩), Shape.Idx.along (s := (⟨1, ![N]⟩ : Shape)) (ix1 j) ⟨0, e⟩ k = ix1 k :=
    fun k => along_one j k e
  simp only [e1]
  rfl

/-- The program's comparison of two numbers is their order. -/
theorem comparator_iff (a b : EReal) (u v : BitVec 32) : (comparator_f32_i32_d0 (F := Ideal) (a, u) (b, v) == 1#1) = decide (a < b) := by
  have clean : ∀ (a c : EReal), Scalar.select (FloatOps.cmpf (F := Ideal) (φ := .f32) .une a a) c
      (Scalar.select (FloatOps.cmpf (F := Ideal) (φ := .f32) .oeq a (FloatOps.ofBits (F := Ideal) .f32 0x00000000#32)) (FloatOps.ofBits (F := Ideal) .f32 0x00000000#32 : EReal) a) = a := by
    intro a c
    have h1 : FloatOps.cmpf (F := Ideal) (φ := .f32) .une a a = 0#1 := by
      show BitVec.ofBool (decide (a ≠ a)) = 0#1
      simp
    have h2 : (FloatOps.ofBits .f32 0x00000000#32 : Ideal .f32) = (0 : EReal) := by
      show Ideal.ofBits .f32 0x00000000#32 = 0
      unfold Ideal.ofBits Ideal.ieee
      simp
    rw [h1, h2, show ∀ x y : EReal, Scalar.select (0#1) x y = y from fun _ _ => rfl]
    by_cases h : a = 0
    · subst h
      show Scalar.select (BitVec.ofBool (decide ((0 : EReal) = 0))) (0 : EReal) 0 = 0
      simp [Scalar.select]
    · have : FloatOps.cmpf (F := Ideal) (φ := .f32) .oeq a (0 : EReal) = 0#1 := by
        show BitVec.ofBool (decide (a = 0)) = 0#1
        simp [h]
      rw [this]
      rfl
  unfold comparator_f32_i32_d0
  dsimp only
  rw [clean, clean]
  show (BitVec.ofBool (decide (a < b)) == 1#1) = decide (a < b)
  by_cases h : a < b <;> simp [h]

/-- The place of the greatest number. -/
theorem greatest_place {N : ℕ} (hN : 0 < N) (x : FVec Ideal ⟨1, ![N]⟩ .f32) (h : (⟨1, ![N]⟩ : Shape).Slices (fun _ => 0) ⟨1, ![1]⟩) :
    ∃ q : Fin N, (Host.topK ⟨1, ![1]⟩ 0 (FloatOps.cmpfTotal .gt) x h).2 (ix1 0) = BitVec.ofNat 32 q.val ∧ ∀ k, x (ix1 k) ≤ x (ix1 q) := by
  have e : 0 < (⟨1, ![N]⟩ : Shape).rank := Nat.one_pos
  let f : Fin N → Fin N := sortedFrom fun k k' => decide (x (ix1 k') < x (ix1 k))
  refine ⟨f ⟨0, hN⟩, ?_, fun k => ?_⟩
  · unfold Host.topK Host.sort2
    dsimp only
    simp only [dif_pos e]
    unfold extractStridedSlice
    have e0 : ∀ p : (∀ a : Fin 1, (fun _ : Fin 1 => 0) a + ((ix1 (0 : Fin 1)) (a.cast h.1)).val < (⟨1, ![N]⟩ : Shape).size a), (fun a => ⟨(fun _ : Fin 1 => 0) a + ((ix1 (0 : Fin 1)) (a.cast h.1)).val, p a⟩ : (⟨1, ![N]⟩ : Shape).Idx) = ix1 ⟨0, hN⟩ := by
      intro p
      funext a
      obtain rfl : a = 0 := Subsingleton.elim _ _
      rfl
    simp only [e0]
    have e1 : ∀ k : Fin ((⟨1, ![N]⟩ : Shape).size ⟨0, e⟩), Shape.Idx.along (s := (⟨1, ![N]⟩ : Shape)) (ix1 ⟨0, hN⟩) ⟨0, e⟩ k = ix1 k :=
      fun k => along_one _ k e
    simp only [e1, before_iff]
    rfl
  · obtain ⟨j, rfl⟩ : ∃ j, f j = k := sortedFrom_surjective _ k
    rcases Nat.eq_zero_or_pos j.val with h0 | h0
    · rw [show j = ⟨0, hN⟩ from Fin.ext h0]
    · have := sortedFrom_noInversion (fun k k' => decide (x (ix1 k') < x (ix1 k))) (fun k k' => decide (x (ix1 k') < x (ix1 k)))
        (fun a b hab => by simp only [decide_eq_true_eq, decide_eq_false_iff_not] at hab ⊢; exact not_lt.mpr hab.le)
        (fun a b hab => hab)
        (fun a b c hab hbc => by
          simp only [decide_eq_false_iff_not, not_lt] at hab hbc ⊢; exact hab.trans hbc) ⟨0, hN⟩ j (Fin.lt_def.mpr h0)
      simpa [f] using this

/-! ## Reading at a place -/

/-- A gather of single entries. -/
theorem gather_one {N : ℕ} (hN : N < 2 ^ 31) {α : Type} (wf : GatherDims.WF ⟨1, ![N]⟩ ⟨2, ![N, 1]⟩ ⟨1, ![N]⟩ [] [0] [] [0] [] 1 ![1])
    (l : (⟨1, ![N]⟩ : Shape).Idx → α) (w : IVec ⟨2, ![N, 1]⟩ 32) (j t : Fin N) (h : w (ix2 j 0) = BitVec.ofNat 32 t.val) :
    Host.gather (⟨[], [0], [], [], [0], 1, ![1], wf⟩ : GatherDims ⟨1, ![N]⟩ ⟨2, ![N, 1]⟩ ⟨1, ![N]⟩) l w (ix1 j) = l (ix1 t) := by
  set D : GatherDims ⟨1, ![N]⟩ ⟨2, ![N, 1]⟩ ⟨1, ![N]⟩ := ⟨[], [0], [], [], [0], 1, ![1], wf⟩ with hD
  unfold Host.gather
  refine congrArg l (funext fun a => Fin.ext ?_)
  obtain rfl : a = 0 := Subsingleton.elim _ _
  show D.start (ix1 j) w 0 + D.batchCoord (ix1 j) 0 + D.offCoord (ix1 j) 0 = t.val
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ D.startIndexMap from List.mem_singleton.mpr rfl)]
  have hsi : D.siIdx (ix1 j) ⟨List.idxOf (0 : Fin 1) D.startIndexMap, List.idxOf_lt_length_iff.2 (List.mem_singleton.mpr rfl)⟩ = ix2 j 0 := by
    funext b
    refine Fin.ext ?_
    match b with
    | ⟨0, _⟩ => rfl
    | ⟨1, _⟩ => rfl
  rw [hsi, h]
  have ht := t.isLt
  have hi : (BitVec.ofNat 32 t.val).toInt = (t.val : ℤ) := by
    rw [BitVec.toInt_eq_toNat_of_lt (by rw [BitVec.toNat_ofNat]; omega), BitVec.toNat_ofNat, Nat.mod_eq_of_lt (by omega)]
  rw [hi]
  show min ((t.val : ℤ).toNat) (N - 1) = t.val
  rw [Int.toNat_natCast]
  omega

/-- A word below half the range is not negative: the wrap of negative places leaves it. -/
theorem wrap_keep (n : ℕ) (hn : n < 2 ^ 31) (a : BitVec 32) :
    Scalar.select (IntOp.cmpi .slt (BitVec.ofNat 32 n) 0#32) a (BitVec.ofNat 32 n) = BitVec.ofNat 32 n := by
  have hlt : (BitVec.ofNat 32 n).slt 0#32 = false := by
    rw [BitVec.slt_eq_decide, BitVec.toInt_zero, decide_eq_false_iff_not,
      BitVec.toInt_eq_toNat_of_lt (by rw [BitVec.toNat_ofNat]; omega)]
    omega
  show Scalar.select (BitVec.ofBool ((BitVec.ofNat 32 n).slt 0#32)) a _ = _
  rw [hlt]
  rfl

/-! ## The stages -/

/-- The rows laid end to end. -/
def flat (o : FVec Ideal S4096x1000 .f32) : FVec Ideal S4096000 .f32 := shapeCast S4096000 o shapeCasts_S4096x1000_S4096000

theorem flat_at (o : FVec Ideal S4096x1000 .f32) (k : Fin 4096000) : flat o (ix1 k) = o (ix2 (row k) (col k)) := by
  unfold flat
  pointwise
  rfl

/-- The places of the flat scores, the greatest score first. -/
def places (s : FVec Ideal S4096000 .f32) : IVec S4096000 32 :=
  (Host.sort2 S4096000 0 comparator_f32_i32_d0 (Host.negf s) (iotaInDim S4096000 32 0)).2

theorem places_at (s : FVec Ideal S4096000 .f32) (j : Fin 4096000) :
    places s (ix1 j) = BitVec.ofNat 32 (rising (fun k => -s (ix1 k)) j).val := by
  unfold places
  exact sort_places _ comparator_iff _ _ j

/-- The entries of `l` at the places `w`. -/
def taken (l : FVec Ideal S4096000 .f32) (w : IVec S4096000 32) : FVec Ideal S4096000 .f32 :=
  Host.gather gather_S4096000_S4096000x1_S4096000_n_0_n_n_0_1_1 l (broadcastInDim S4096000x1 ![0] bcast_S4096000_S4096000x1_0
    (select (cmpi .slt w (broadcastInDim S4096000 ![] bcast_S_S4096000 (constantI S_ 32 0#32)))
      (addi w (broadcastInDim S4096000 ![] bcast_S_S4096000 (constantI S_ 32 4096000#32))) w))

/-- The places with the negative ones wrapped, as a column. -/
def wrapped (w : IVec S4096000 32) : IVec S4096000x1 32 := broadcastInDim S4096000x1 ![0] bcast_S4096000_S4096000x1_0
    (select (cmpi .slt w (broadcastInDim S4096000 ![] bcast_S_S4096000 (constantI S_ 32 0#32)))
      (addi w (broadcastInDim S4096000 ![] bcast_S_S4096000 (constantI S_ 32 4096000#32))) w)

theorem wrapped_at (w : IVec S4096000 32) (j : Fin 4096000) :
    wrapped w (ix2 j 0) = Scalar.select (IntOp.cmpi .slt (w (ix1 j)) 0#32) (IntOp.addi (w (ix1 j)) 4096000#32) (w (ix1 j)) := by
  unfold wrapped
  pointwise

theorem taken_at (l : FVec Ideal S4096000 .f32) (w : IVec S4096000 32) (j t : Fin 4096000) (h : w (ix1 j) = BitVec.ofNat 32 t.val) :
    taken l w (ix1 j) = l (ix1 t) := by
  have ht := t.isLt
  refine gather_one (by norm_num) _ l (wrapped w) j t ?_
  rw [wrapped_at, h, wrap_keep _ (by omega)]

/-- The labels in the order of the scores. -/
theorem labels_at (o h : FVec Ideal S4096x1000 .f32) (j : Fin 4096000) :
    taken (flat h) (places (flat o)) (ix1 j) = h (ix2 (row (rising (fun k => -o (ix2 (row k) (col k))) j)) (col (rising (fun k => -o (ix2 (row k) (col k))) j))) := by
  rw [taken_at _ _ j _ (places_at _ j), flat_at]
  simp only [flat_at]

/-- The sum of all. -/
def count (b : FVec Ideal S4096000 .f32) : FVec Ideal S_ .f32 :=
  Host.reduceAdd b (constant S_ .f32 0x00000000#32) reducesTo_S4096000_S_d0 h_S_

theorem count_at (b : FVec Ideal S4096000 .f32) : count b ix0 = ∑ k : Fin 4096000, b (ix1 k) := by
  unfold count
  pointwise

/-- The running sums. -/
def upto (b : FVec Ideal S4096000 .f32) : FVec Ideal S4096000 .f32 :=
  Host.reduceWindowAdd ![4096000] ![1] ![4095999] ![0] b (broadcastInDim S_ ![] bcast_S_S_ (constant S_ .f32 0x00000000#32))
    reduceWindows_S4096000_S4096000_w4096000s1p4095999_0 h_S_

theorem zero_word : (broadcastInDim S_ ![] bcast_S_S_ (constant S_ .f32 0x00000000#32 : FVec Ideal S_ .f32)) ix0 = (0 : EReal) := by
  pointwise

theorem upto_at (b : FVec Ideal S4096000 .f32) (j : Fin 4096000) : upto b (ix1 j) = ∑ i ∈ Finset.univ.filter (· ≤ j), b (ix1 i) := by
  unfold upto
  refine running_sum (by norm_num) b _ (fun z => ?_) _ _ j
  rw [show z = ix0 from funext fun a => a.elim0]
  exact zero_word

/-- The complements. -/
def flip (b : FVec Ideal S4096000 .f32) : FVec Ideal S4096000 .f32 :=
  subf (broadcastInDim S4096000 ![] bcast_S_S4096000 (constant S_ .f32 0x3F800000#32)) b

theorem flip_at (b : FVec Ideal S4096000 .f32) (j : Fin 4096000) : flip b (ix1 j) = 1 - b (ix1 j) := by
  unfold flip
  pointwise

/-- The first rate from the running sums and the sum. -/
def rate (u : FVec Ideal S4096000 .f32) (n : FVec Ideal S_ .f32) : FVec Ideal S4096000 .f32 :=
  Host.divf u (broadcastInDim S4096000 ![] bcast_S_S4096000 n)

theorem rate_at (u : FVec Ideal S4096000 .f32) (n : FVec Ideal S_ .f32) (j : Fin 4096000) : rate u n (ix1 j) = Ideal.div (u (ix1 j)) (n ix0) := by
  unfold rate
  pointwise

/-- The number of the others. -/
def others (n : FVec Ideal S_ .f32) : FVec Ideal S_ .f32 := subf (constant S_ .f32 0x4A7A0000#32) n

theorem others_at (n : FVec Ideal S_ .f32) : others n ix0 = Ideal.ofBits .f32 0x4A7A0000#32 - n ix0 := by
  unfold others
  pointwise

/-- Minus the distance of two rates. -/
def nearness (u v : FVec Ideal S4096000 .f32) : FVec Ideal S4096000 .f32 := Host.negf (Host.absf (subf u v))

theorem nearness_at (u v : FVec Ideal S4096000 .f32) (j : Fin 4096000) :
    nearness u v (ix1 j) = -max (u (ix1 j) - v (ix1 j)) (-(u (ix1 j) - v (ix1 j))) := by
  unfold nearness
  pointwise
  rfl

/-- The place of the greatest entry. -/
def greatest (x : FVec Ideal S4096000 .f32) : IVec S1 32 := (Host.topK S1 0 (FloatOps.cmpfTotal .gt) x sliceFits_S4096000_S1).2

theorem greatest_at (x : FVec Ideal S4096000 .f32) :
    ∃ q : Fin 4096000, greatest x (ix1 0) = BitVec.ofNat 32 q.val ∧ ∀ k, x (ix1 k) ≤ x (ix1 q) := by
  unfold greatest
  exact greatest_place (by norm_num) x _

/-- The entry at a place. -/
def entry (x : FVec Ideal S4096000 .f32) (w : IVec S_ 32) : FVec Ideal S_ .f32 :=
  shapeCast S_ (Host.dynamicSlice S1 x (fun k => ((![select (cmpi .slt w (constantI S_ 32 0#32)) (addi w (constantI S_ 32 4096000#32)) w]
    : Fin 1 → IVec S_ 32) k (Shape.Idx.first h_S_)).toInt) sliceFits_S4096000_S1) shapeCasts_S1_S_

theorem scalar_one {α : Type} (x : S1.Idx → α) : shapeCast S_ x shapeCasts_S1_S_ ix0 = x (ix1 0) := by
  pointwise

theorem entry_at (x : FVec Ideal S4096000 .f32) (w : IVec S_ 32) (q : Fin 4096000) (h : w ix0 = BitVec.ofNat 32 q.val) : entry x w ix0 = x (ix1 q) := by
  have hq := q.isLt
  unfold entry
  rw [scalar_one]
  have hk : S4096000.Slices (fun _ => q.val) S1 := ⟨rfl, fun a => by
    obtain rfl : a = 0 := Subsingleton.elim _ _
    show q.val + 1 ≤ 4096000
    omega⟩
  rw [Host.dynamicSlice_eq_extractStridedSlice S1 x _ (fun _ => q.val) _ hk fun a => ?_]
  · unfold extractStridedSlice
    refine congrArg x (funext fun a => ?_)
    obtain rfl : a = 0 := Subsingleton.elim _ _
    exact Fin.ext (Nat.add_zero _)
  · obtain rfl : a = 0 := Subsingleton.elim _ _
    rw [show Shape.Idx.first h_S_ = ix0 from funext fun a => a.elim0]
    show (Scalar.select (IntOp.cmpi .slt (w ix0) 0#32) (IntOp.addi (w ix0) 4096000#32) (w ix0)).toInt = (q.val : ℤ)
    rw [h, wrap_keep _ (by omega), BitVec.toInt_eq_toNat_of_lt (by rw [BitVec.toNat_ofNat]; omega), BitVec.toNat_ofNat, Nat.mod_eq_of_lt (by omega)]

/-- The mean of two rates at the place where they are nearest. -/
def middle (u v : FVec Ideal S4096000 .f32) : FVec Ideal S_ .f32 :=
  Host.divf (addf (entry u (shapeCast S_ (greatest (nearness u v)) shapeCasts_S1_S_))
    (entry v (shapeCast S_ (greatest (nearness u v)) shapeCasts_S1_S_))) (constant S_ .f32 0x40000000#32)

theorem half_sum (a b : FVec Ideal S_ .f32) :
    Host.divf (addf a b) (constant S_ .f32 0x40000000#32) ix0 = Ideal.div (a ix0 + b ix0) (Ideal.ofBits .f32 0x40000000#32) := by
  pointwise

theorem middle_at (u v : FVec Ideal S4096000 .f32) : ∃ q : Fin 4096000, (∀ k, nearness u v (ix1 k) ≤ nearness u v (ix1 q))
    ∧ middle u v ix0 = Ideal.div (u (ix1 q) + v (ix1 q)) (Ideal.ofBits .f32 0x40000000#32) := by
  obtain ⟨q, hq, hk⟩ := greatest_at (nearness u v)
  refine ⟨q, hk, ?_⟩
  unfold middle
  rw [half_sum, entry_at u _ q ((scalar_one _).trans hq), entry_at v _ q ((scalar_one _).trans hq)]

/-- The equal error rate of the labels in the order of the scores. -/
def eer (b : FVec Ideal S4096000 .f32) : FVec Ideal S_ .f32 :=
  middle (flip (rate (upto b) (count b))) (rate (upto (flip b)) (others (count b)))

/-- The reference's three results. -/
theorem run_all (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v145)
          = total (loss4096 (logitsR (inX (launchContents m c)) (inT (launchContents m c)) (inC (launchContents m c))) (inT (launchContents m c)))
              (loss5000 (logitsC (inC (launchContents m c))) lab)
        ∧ r.2.mem ((c.tc : Thread nD τ).loc main_v151)
          = hits (firstCol (outs (logitsR (inX (launchContents m c)) (inT (launchContents m c)) (inC (launchContents m c))) (inT (launchContents m c))))
              (inT (launchContents m c))
        ∧ r.2.mem ((c.tc : Thread nD τ).loc main_v192)
          = eer (taken (flat (hot4096 (inT (launchContents m c)))) (places (flat (outs
              (logitsR (inX (launchContents m c)) (inT (launchContents m c)) (inC (launchContents m c))) (inT (launchContents m c))))))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2) := by
  have h88 : ∀ V, res_main_v88 (F := Ideal) V = outs (logitsR (inX V) (inT V) (inC V)) (inT V) := by
    intro V
    rw [v88_eq, v63_eq, v64_eq, v57_eq, v48_logits]
    rfl
  have h163 : ∀ V, res_main_v163 (F := Ideal) V = taken (flat (hot4096 (inT V))) (places (flat (res_main_v88 V))) := fun V => rfl
  have h164 : ∀ V, res_main_v164 (F := Ideal) V = count (res_main_v163 V) := fun V => rfl
  have h173 : ∀ V, res_main_v173 (F := Ideal) V = flip (rate (upto (res_main_v163 V)) (res_main_v164 V)) := fun V => rfl
  have h175 : ∀ V, res_main_v175 (F := Ideal) V = rate (upto (flip (res_main_v163 V))) (others (res_main_v164 V)) := fun V => rfl
  have h179 : ∀ V, res_main_v179 (F := Ideal) V
      = shapeCast S_ (greatest (nearness (res_main_v173 V) (res_main_v175 V))) shapeCasts_S1_S_ := fun V => rfl
  have h185 : ∀ V, res_main_v185 (F := Ideal) V
      = shapeCast S_ (greatest (nearness (res_main_v173 V) (res_main_v175 V))) shapeCasts_S1_S_ := fun V => rfl
  refine (θ_run defs _ _).mono (fun r h c => ⟨(h c).1.trans ?_, (h c).2.1.trans ?_, (h c).2.2.1.trans ?_, (h c).2.2.2⟩) (run (F := Ideal) m ρ)
  · rw [call6_shift, call7_eq, call11_shift, call12_start]
    rfl
  · rw [h88]
    rfl
  · rw [h179, h185, h173, h175, h164, h163, h88]
    rfl

end Cert.ReferenceIdeal.Eer
-- ==== Proof.KRows.lean ====
/- What the two kernel bodies compute at an index, over the extended reals. -/
module

public import proofs.«01_k».proof.Proof.KBlock
public import proofs.«01_k».proof.Proof.Spec

@[expose] public section

set_option maxRecDepth 16384

noncomputable section

open Idealize.ShloMosaic Idealize.ShloMosaic.TcCoe Idealize.ShloMosaic.Pointwise
open Cert.Spec

namespace Cert.KernelIdeal.Rows

open Cert.KernelIdeal Cert.KernelIdeal.Gen Cert.KernelIdeal.Value

/-- A flag converted to a number is one or zero. -/
theorem flag (p : Prop) [Decidable p] :
    FloatOps.sitofp (F := Ideal) FTy.f32 (BitVec.setWidth 32 (BitVec.ofBool (decide p))) = bit p := by
  by_cases h : p
  · simp only [h, decide_true, bit, if_true]
    show ((((1#32 : BitVec 32).toInt : ℝ)) : EReal) = 1
    norm_num
  · simp only [h, decide_false, bit, if_false]
    show ((((0#32 : BitVec 32).toInt : ℝ)) : EReal) = 0
    norm_num

/-- The similarity of a row of a block with a column of the centers. -/
theorem pay3_at (x : Vec Ideal S128x64 .f32) (cs : Vec Ideal S64x5000 .f32) (r : Fin 128) (j : Fin 5000) :
    k0_pay3 x cs (ix2 r j) = sim (fun d => x (ix2 r d)) (fun d => cs (ix2 d j)) := by
  unfold k0_pay3
  pointwise
  rfl

set_option maxHeartbeats 2000000 in
/-- The class of a permuted column. -/
theorem pay5_at (r : Fin 128) (j : Fin 5000) : k0_pay5 (ix2 r j) = BitVec.ofNat 32 (j.val % 1000) := by
  unfold k0_pay5
  pointwise
  clear r
  revert j
  decide +kernel

/-- A word comparison for equality as a flag. -/
theorem cmpi_eq (a b : BitVec 32) : IntOp.cmpi CmpIPredicate.eq a b = BitVec.ofBool (decide (a = b)) := by
  unfold IntOp.cmpi; simp [BEq.beq]

theorem pay6_at (y : Vec Ideal S1x1x128 .i32) (r : Fin 128) (j : Fin 5000) : k0_pay6 (F := Ideal) y (ix2 r j) = y (ix3 0 0 r) := by
  unfold k0_pay6 k0_pay4
  pointwise

theorem pay7_at (s : FVec Ideal S128x5000 .f32) (a b : IVec S128x5000 32) (r : Fin 128) (j : Fin 5000) :
    k0_pay7 s a b (ix2 r j) = s (ix2 r j) + bit (a (ix2 r j) = b (ix2 r j)) := by
  unfold k0_pay7
  pointwise
  rw [cmpi_eq, flag]

theorem pay11_at (s : FVec Ideal S128x5000 .f32) (a b : IVec S128x5000 32) (lo hi : FVec Ideal S128 .f32) (r : Fin 128) :
    k0_pay11 s a b lo hi (ix1 r) = BitVec.ofBool (decide (Ideal.ofBits .f32 0x43FA0000#32
      ≤ ∑ j : Fin 5000, bit (Ideal.ofBits .f32 0x3F000000#32 * (lo (ix1 r) + hi (ix1 r)) < k0_pay7 s a b (ix2 r j)))) := by
  unfold k0_pay11 k0_pay10
  pointwise
  simp only [flag]

theorem pay15_at (y : IVec S128 32) (r : Fin 128) (c : Fin 1000) :
    k0_pay15 (F := Ideal) y (ix2 r c) = bit (BitVec.ofNat 32 c.val = y (ix1 r)) := by
  unfold k0_pay15
  pointwise
  rw [cmpi_eq, flag]

theorem pay12_at (s : FVec Ideal S128x5000 .f32) (a b : IVec S128x5000 32) (lo hi : FVec Ideal S128 .f32) (r : Fin 128) :
    (k0_pay12 s a b lo hi (ix1 r), k0_pay13 s a b lo hi (ix1 r))
      = half (fun j => k0_pay7 s a b (ix2 r j)) (lo (ix1 r), hi (ix1 r)) := by
  unfold k0_pay12 k0_pay13
  unfold k0_pay10
  pointwise
  rw [pay11_at]
  unfold half
  dsimp only
  by_cases h : Ideal.ofBits .f32 0x43FA0000#32
      ≤ ∑ j : Fin 5000, bit (Ideal.ofBits .f32 0x3F000000#32 * (lo (ix1 r) + hi (ix1 r)) < k0_pay7 s a b (ix2 r j))
  · rw [if_pos h, decide_eq_true h]; rfl
  · rw [if_neg h, decide_eq_false h]; rfl

/-- The biased similarities of a row. -/
def biased (x : Vec Ideal S128x64 .f32) (cs : Vec Ideal S64x5000 .f32) (w : BitVec 32) (r : Fin 128) (j : Fin 5000) : EReal :=
  sim (fun d => x (ix2 r d)) (fun d => cs (ix2 d j)) + bit (BitVec.ofNat 32 (j.val % 1000) = w)

theorem biased_at (x : Vec Ideal S128x64 .f32) (cs : Vec Ideal S64x5000 .f32) (y : Vec Ideal S1x1x128 .i32) (r : Fin 128) (j : Fin 5000) :
    k0_pay7 (k0_pay3 x cs) k0_pay5 (k0_pay6 (F := Ideal) y) (ix2 r j) = biased x cs (y (ix3 0 0 r)) r j := by
  rw [pay7_at, pay3_at, pay5_at, pay6_at]; rfl

theorem lows_at (x : Vec Ideal S128x64 .f32) (cs : Vec Ideal S64x5000 .f32) (y : Vec Ideal S1x1x128 .i32) (r : Fin 128) :
    lows x cs y (ix1 r) = (bisect (biased x cs (y (ix3 0 0 r)) r) 24).1 := by
  unfold lows
  rw [Scf.fold_eq, List.foldl_const, List.length_finRange]
  rw [show k0_t1_loop.trips = 24 from by decide +kernel]
  have key : ∀ n : ℕ, ∀ q, q = (fun a : FVec Ideal S128 .f32 × FVec Ideal S128 .f32 =>
      (k0_pay12 (k0_pay3 x cs) k0_pay5 (k0_pay6 (F := Ideal) y) a.1 a.2, k0_pay13 (k0_pay3 x cs) k0_pay5 (k0_pay6 (F := Ideal) y) a.1 a.2))^[n]
        (k0_pay8, k0_pay9) → (q.1 (ix1 r), q.2 (ix1 r)) = bisect (biased x cs (y (ix3 0 0 r)) r) n := by
    intro n
    induction n with
    | zero => rintro q rfl; rfl
    | succ n ih =>
      rintro q rfl
      rw [Function.iterate_succ_apply']
      unfold bisect
      rw [Function.iterate_succ_apply']
      rw [pay12_at]
      rw [ih _ rfl]
      simp only [biased_at]
      rfl
  exact congrArg Prod.fst (key 24 _ rfl)

theorem pay14_at (s : FVec Ideal S128x5000 .f32) (a b : IVec S128x5000 32) (lo : FVec Ideal S128 .f32) (r : Fin 128) (c : Fin 1000) :
    k0_pay14 s a b lo (ix2 r c) = prob (pool fun j => bit (lo (ix1 r) < k0_pay7 s a b (ix2 r j)) * s (ix2 r j)) c := by
  unfold k0_pay14
  pointwise
  simp only [flag]
  rfl

/-- The selected similarities of a row: those whose biased value exceeds the bisection's lower end. -/
def picked (x : Vec Ideal S128x64 .f32) (cs : Vec Ideal S64x5000 .f32) (w : BitVec 32) (r : Fin 128) (j : Fin 5000) : EReal :=
  bit ((bisect (biased x cs w r) 24).1 < biased x cs w r j) * sim (fun d => x (ix2 r d)) (fun d => cs (ix2 d j))

theorem probs_at (x : Vec Ideal S128x64 .f32) (cs : Vec Ideal S64x5000 .f32) (y : Vec Ideal S1x1x128 .i32) (r : Fin 128) (c : Fin 1000) :
    probs x cs y (ix2 r c) = prob (pool (picked x cs (y (ix3 0 0 r)) r)) c := by
  unfold probs
  rw [pay14_at]
  simp only [biased_at, lows_at, pay3_at]
  rfl

theorem pay17_at (p t : FVec Ideal S128x1000 .f32) (q : FVec Ideal S128x1000 .f32) (r : Fin 128) (c : Fin 1000)
    (hq : q (ix2 r c) = max 0 (1 - p (ix2 r c) * p (ix2 r c))) :
    k0_pay17 p t (FloatOps.ofBits FTy.f32 0x3F800000#32) q (ix2 r c) = arc (p (ix2 r c)) (t (ix2 r c)) := by
  unfold k0_pay17
  pointwise
  rw [hq]
  rfl

theorem pay16_at (s : FVec Ideal S128x5000 .f32) (a b : IVec S128x5000 32) (lo : FVec Ideal S128 .f32) (r : Fin 128) (c : Fin 1000) :
    k0_pay16 s a b lo (ix2 r c) = max 0 (1 - k0_pay14 s a b lo (ix2 r c) * k0_pay14 s a b lo (ix2 r c)) := by
  unfold k0_pay16
  pointwise

/-- The scores of a row of the main call's block. -/
theorem outs_at (x : Vec Ideal S128x64 .f32) (cs : Vec Ideal S64x5000 .f32) (y : Vec Ideal S1x1x128 .i32) (r : Fin 128) (c : Fin 1000) :
    k0_pay17 (probs x cs y) (k0_pay15 (F := Ideal) (k0_pay4 (F := Ideal) y)) (FloatOps.ofBits FTy.f32 0x3F800000#32) (sines x cs y) (ix2 r c)
      = scores (pool (picked x cs (y (ix3 0 0 r)) r)) (y (ix3 0 0 r)) c := by
  rw [pay17_at _ _ _ _ _ (by unfold sines probs; exact pay16_at ..), pay15_at, probs_at]
  unfold k0_pay4
  pointwise
  rfl

/-- The pattern of minus infinity. -/
theorem ofBits_bot : Ideal.ofBits .f32 0xFF800000#32 = ⊥ := by
  unfold Ideal.ofBits Ideal.ieee
  simp

theorem pay18_at (p t : FVec Ideal S128x1000 .f32) (k : EReal) (q : FVec Ideal S128x1000 .f32) (r : Fin 128) :
    k0_pay18 p t k q (ix2 r 0) = top fun c => k0_pay17 p t k q (ix2 r c) := by
  unfold k0_pay18
  pointwise
  rw [ofBits_bot]; rfl

/-- The row's loss in the kernel's spelling, the one-hot row given by `t`. -/
def lossG {n : ℕ} (o t : Fin n → EReal) : EReal :=
  Ideal.log (∑ x, Ideal.exp (o x - top o)) + top o - ∑ x : Fin n, t x * o x

theorem lossG_eq {n : ℕ} (o : Fin n → EReal) (w : BitVec 32) :
    lossG o (fun c => bit (BitVec.ofNat 32 c.val = w)) = lossK o w := rfl

theorem pay4_at (y : Vec Ideal S1x1x128 .i32) (r : Fin 128) : k0_pay4 (F := Ideal) y (ix1 r) = y (ix3 0 0 r) := by
  unfold k0_pay4
  pointwise

theorem pay20_at (p t : FVec Ideal S128x1000 .f32) (k : EReal) (q : FVec Ideal S128x1000 .f32) :
    k0_pay20 p t k q = ∑ r : Fin 128, lossG (fun c => k0_pay17 p t k q (ix2 r c)) (fun c => t (ix2 r c)) := by
  unfold k0_pay20 k0_pay19
  pointwise
  simp only [pay18_at]
  rfl

theorem pay2_at (a : FVec Ideal S128 .f32) (b c : EReal) (d : FVec Ideal S128 .f32) (o : Vec Ideal S1x128 .f32) :
    k0_pay2 a b c d o (ix2 0 0) = o (ix2 0 0) + b := by
  unfold k0_pay2
  pointwise
  rw [show IntOp.cmpi CmpIPredicate.eq 0#32 1#32 = 0#1 from rfl, show IntOp.cmpi CmpIPredicate.eq 0#32 2#32 = 0#1 from rfl]
  show o (ix2 0 0) + (b + 0 + 0) = _
  rw [add_zero, add_zero]

/-- A block of the main call adds its rows' losses to the accumulator's first lane. -/
theorem stepMain_at (x : Vec Ideal S128x64 .f32) (cs : Vec Ideal S64x5000 .f32) (y : Vec Ideal S1x1x128 .i32) (o : Vec Ideal S1x128 .f32) :
    stepMain x cs y o (ix2 0 0) = o (ix2 0 0)
      + ∑ r : Fin 128, lossK (scores (pool (picked x cs (y (ix3 0 0 r)) r)) (y (ix3 0 0 r))) (y (ix3 0 0 r)) := by
  unfold stepMain
  rw [pay2_at, pay20_at]
  refine congrArg (o (ix2 0 0) + ·) (Finset.sum_congr rfl fun r _ => ?_)
  simp only [outs_at, pay15_at, pay4_at]
  exact lossG_eq _ _

theorem pay19_at (p t : FVec Ideal S128x1000 .f32) (k : EReal) (q : FVec Ideal S128x1000 .f32) (r : Fin 128) :
    k0_pay19 p t k q (ix1 r) = ∑ c : Fin 1000, t (ix2 r c) * k0_pay17 p t k q (ix2 r c) := by
  unfold k0_pay19
  pointwise

/-- The number of rows of a block whose label's score is at least the greatest. -/
theorem pay21_at (p t : FVec Ideal S128x1000 .f32) (k : EReal) (q : FVec Ideal S128x1000 .f32) :
    k0_pay21 p t k q = ∑ r : Fin 128, bit ((top fun c => k0_pay17 p t k q (ix2 r c))
      ≤ ∑ c : Fin 1000, t (ix2 r c) * k0_pay17 p t k q (ix2 r c)) := by
  unfold k0_pay21
  pointwise
  simp only [pay18_at, pay19_at, flag]

theorem pay2_second (a : FVec Ideal S128 .f32) (b c : EReal) (d : FVec Ideal S128 .f32) (o : Vec Ideal S1x128 .f32) :
    k0_pay2 a b c d o (ix2 0 1) = o (ix2 0 1) + c := by
  unfold k0_pay2
  pointwise
  rw [show IntOp.cmpi CmpIPredicate.eq 1#32 0#32 = 0#1 from rfl, show IntOp.cmpi CmpIPredicate.eq 1#32 2#32 = 0#1 from rfl]
  show o (ix2 0 1) + (0 + c + 0) = _
  rw [add_zero, zero_add]

/-- A block of the main call adds the number of its rows whose label's score is the greatest to the second lane. -/
theorem stepMain_second (x : Vec Ideal S128x64 .f32) (cs : Vec Ideal S64x5000 .f32) (y : Vec Ideal S1x1x128 .i32) (o : Vec Ideal S1x128 .f32) :
    stepMain x cs y o (ix2 0 1) = o (ix2 0 1)
      + ∑ r : Fin 128, wins (scores (pool (picked x cs (y (ix3 0 0 r)) r)) (y (ix3 0 0 r))) (y (ix3 0 0 r)) := by
  unfold stepMain
  rw [pay2_second, pay21_at]
  refine congrArg (o (ix2 0 1) + ·) (Finset.sum_congr rfl fun r _ => ?_)
  simp only [outs_at, pay15_at, pay4_at]
  rfl

/-- The third lane grows by the number of rows whose entry of `a` exceeds that of `d`. -/
theorem pay2_third (a : FVec Ideal S128 .f32) (b c : EReal) (d : FVec Ideal S128 .f32) (o : Vec Ideal S1x128 .f32) :
    k0_pay2 a b c d o (ix2 0 2) = o (ix2 0 2) + ∑ r : Fin 128, bit (d (ix1 r) < a (ix1 r)) := by
  unfold k0_pay2
  pointwise
  rw [show IntOp.cmpi CmpIPredicate.eq 2#32 0#32 = 0#1 from rfl, show IntOp.cmpi CmpIPredicate.eq 2#32 1#32 = 0#1 from rfl]
  simp only [flag]
  show o (ix2 0 2) + (0 + 0 + _) = _
  rw [add_zero, zero_add]

theorem pay22_at (r : Fin 128) : (k0_pay22 : FVec Ideal S128 .f32) (ix1 r) = 0 := by
  unfold k0_pay22
  pointwise

/-- A block of the main call adds the number of its rows whose label's score is positive to the third lane. -/
theorem stepMain_third (x : Vec Ideal S128x64 .f32) (cs : Vec Ideal S64x5000 .f32) (y : Vec Ideal S1x1x128 .i32) (o : Vec Ideal S1x128 .f32) :
    stepMain x cs y o (ix2 0 2) = o (ix2 0 2)
      + ∑ r : Fin 128, pos (scores (pool (picked x cs (y (ix3 0 0 r)) r)) (y (ix3 0 0 r))) (y (ix3 0 0 r)) := by
  unfold stepMain
  rw [pay2_third]
  refine congrArg (o (ix2 0 2) + ·) (Finset.sum_congr rfl fun r _ => ?_)
  simp only [pay19_at, pay22_at, outs_at, pay15_at, pay4_at]
  rfl

/-! ## The regulariser -/

theorem k1pay3_at (x : Vec Ideal S200x64 .f32) (cs : Vec Ideal S64x5000 .f32) (r : Fin 200) (c : Fin 1000) :
    k1_pay3 x cs (ix2 r c) = prob (pool fun j => sim (fun d => x (ix2 r d)) (fun d => cs (ix2 d j))) c := by
  unfold k1_pay3
  pointwise
  simp only [flag]
  rfl

/-- The class of row `200 g + r`. -/
theorem k1lab : ∀ (g : Fin 25) (r : Fin 200),
    Scalar.select
      (IntOp.andi
        (IntOp.xori
          (IntOp.cmpi CmpIPredicate.slt
            (IntOp.remsi ArithUnit.vector (IntOp.addi (BitVec.ofNat 32 r.val) (Scalar.muli (BitVec.ofNat 32 g.val) 200#32))
              (Scalar.select (Scalar.cmpi CmpIPredicate.eq 1000#32 0#32) 1#32 1000#32))
            0#32)
          (Scalar.cmpi CmpIPredicate.slt (Scalar.select (Scalar.cmpi CmpIPredicate.eq 1000#32 0#32) 1#32 1000#32) 0#32))
        (IntOp.cmpi CmpIPredicate.ne
          (IntOp.remsi ArithUnit.vector (IntOp.addi (BitVec.ofNat 32 r.val) (Scalar.muli (BitVec.ofNat 32 g.val) 200#32))
            (Scalar.select (Scalar.cmpi CmpIPredicate.eq 1000#32 0#32) 1#32 1000#32))
          0#32))
      (IntOp.addi
        (IntOp.remsi ArithUnit.vector (IntOp.addi (BitVec.ofNat 32 r.val) (Scalar.muli (BitVec.ofNat 32 g.val) 200#32))
          (Scalar.select (Scalar.cmpi CmpIPredicate.eq 1000#32 0#32) 1#32 1000#32))
        (Scalar.select (Scalar.cmpi CmpIPredicate.eq 1000#32 0#32) 1#32 1000#32))
      (IntOp.remsi ArithUnit.vector (IntOp.addi (BitVec.ofNat 32 r.val) (Scalar.muli (BitVec.ofNat 32 g.val) 200#32))
        (Scalar.select (Scalar.cmpi CmpIPredicate.eq 1000#32 0#32) 1#32 1000#32)) =
    BitVec.ofNat 32 ((200 * g.val + r.val) % 1000) := by
  decide +kernel

theorem k1pay4_at (g : Fin 25) (r : Fin 200) (c : Fin 1000) :
    k1_pay4 (F := Ideal) (BitVec.ofNat 32 g.val) (iota .tc S200x1000 32 [0] iota_S200x1000_d0_w32) 200#32 (ix2 r c)
      = bit (BitVec.ofNat 32 c.val = BitVec.ofNat 32 ((200 * g.val + r.val) % 1000)) := by
  unfold k1_pay4
  pointwise
  rw [cmpi_eq, flag]
  rw [k1lab]

theorem k1pay2_at (p t q u : FVec Ideal S200x1000 .f32) (o : Vec Ideal S1x128 .f32) :
    k1_pay2 p t q u o (ix2 0 0) = o (ix2 0 0) + ∑ r : Fin 200,
      lossG (fun c => (q (ix2 r c) + (u (ix2 r c) - t (ix2 r c)) * p (ix2 r c)) * scale) (fun c => t (ix2 r c)) := by
  unfold k1_pay2
  pointwise
  rw [ofBits_bot]
  rfl

theorem k1pay5_at (g : BitVec 32) (p : FVec Ideal S200x1000 .f32) (i : IVec S200x1000 32) (w : BitVec 32) (r : Fin 200) (c : Fin 1000) :
    (k1_pay5 g p i w (ix2 r c) + (k1_pay6 (F := Ideal) (ix2 r c) - k1_pay4 g i w (ix2 r c)) * p (ix2 r c)) * scale
      = arc (p (ix2 r c)) (k1_pay4 (F := Ideal) g i w (ix2 r c)) := by
  unfold k1_pay5 k1_pay6
  pointwise
  rfl

/-- A block of the regulariser adds its rows' losses to the accumulator's first lane. -/
theorem stepReg_at (g : Fin 25) (x : Vec Ideal S200x64 .f32) (cs : Vec Ideal S64x5000 .f32) (o : Vec Ideal S1x128 .f32) :
    stepReg (BitVec.ofNat 32 g.val) x cs o (ix2 0 0) = o (ix2 0 0)
      + ∑ r : Fin 200, lossK (scores (pool fun j => sim (fun d => x (ix2 r d)) (fun d => cs (ix2 d j)))
          (BitVec.ofNat 32 ((200 * g.val + r.val) % 1000))) (BitVec.ofNat 32 ((200 * g.val + r.val) % 1000)) := by
  unfold stepReg
  rw [k1pay2_at]
  refine congrArg (o (ix2 0 0) + ·) (Finset.sum_congr rfl fun r _ => ?_)
  rw [← lossG_eq]
  refine congrArg₂ lossG (funext fun c => ?_) (funext fun c => k1pay4_at g r c)
  rw [k1pay5_at, k1pay4_at, k1pay3_at, scores]

end Cert.KernelIdeal.Rows
-- ==== Proof.KLoss.lean ====
/- The kernel's result as a function of its arguments, over the extended reals. -/
module

public import proofs.«01_k».proof.Proof.KRun
public import proofs.«01_k».proof.Proof.KRows
public import Idealize.ShloMosaic.Lib.StableHlo.ReadAt
public import Idealize.ShloMosaic.Lib.Pipeline.ValueKit

@[expose] public section

set_option maxRecDepth 16384

noncomputable section

open Idealize.ShloMosaic Idealize.ShloMosaic.TcCoe Idealize.ShloMosaic.Pointwise
open Cert.Spec

namespace Cert.KernelIdeal.Loss

open Cert.KernelIdeal Cert.KernelIdeal.Gen Cert.KernelIdeal.Value Cert.KernelIdeal.Rows

variable (V : (c : Dev nD) → (b : Ref sig .tc) → Buf (Elt Ideal) ((c : Thread nD τ).loc b))

/-- The blocks' places at each point of the main call. -/
theorem place0 : ∀ t : Fin cfg0.N, win0_0.index t = ![t.val, 0] ∧ win0_1.index t = ![0, 0] ∧ win0_2.index t = ![t.val, 0, 0] :=
  (by decide +kernel : ∀ t : Fin grid0.N, _)
theorem place00 (t : Fin cfg0.N) : win0_0.index t = ![t.val, 0] := (place0 t).1
theorem place01 (t : Fin cfg0.N) : win0_1.index t = ![0, 0] := (place0 t).2.1
theorem place02 (t : Fin cfg0.N) : win0_2.index t = ![t.val, 0, 0] := (place0 t).2.2
/-- The blocks' places at each point of the regulariser's call. -/
theorem place1 : ∀ t : Fin cfg1.N, win1_0.index t = ![t.val, 0] ∧ win1_1.index t = ![0, 0] ∧ (grid1.coords t 0).val = t.val :=
  (by decide +kernel : ∀ t : Fin grid1.N, _)
theorem place10 (t : Fin cfg1.N) : win1_0.index t = ![t.val, 0] := (place1 t).1
theorem place11 (t : Fin cfg1.N) : win1_1.index t = ![0, 0] := (place1 t).2.1

theorem lt0 (t : Fin cfg0.N) : t.val < 32 := by have := t.isLt; have : cfg0.N = 32 := N_0; omega
theorem lt1 (t : Fin cfg1.N) : t.val < 25 := by have := t.isLt; have : cfg1.N = 25 := N_1; omega

theorem blk00 (c : Dev nD) (t : Fin cfg0.N) (r : Fin 128) (d : Fin 64) :
    (iblk0 V c 0 t : Vec Ideal S128x64 .f32) (ix2 r d)
      = (V c main_arg0 : Vec Ideal S4096x64 .f32) (ix2 ⟨128 * t.val + r.val, by have := lt0 t; omega⟩ d) := by
  blk_ext [iblk0, place00]

theorem blk01 (c : Dev nD) (t : Fin cfg0.N) (d : Fin 64) (j : Fin 5000) :
    (iblk0 V c 1 t : Vec Ideal S64x5000 .f32) (ix2 d j) = (V c main_v2 : Vec Ideal S64x5000 .f32) (ix2 d j) := by
  blk_ext [iblk0, place01]

theorem blk02 (c : Dev nD) (t : Fin cfg0.N) (r : Fin 128) :
    (iblk0 V c 2 t : Vec Ideal S1x1x128 .i32) (ix3 0 0 r)
      = (V c main_v4 : Vec Ideal S32x1x128 .i32) (ix3 ⟨t.val, lt0 t⟩ 0 r) := by
  blk_ext [iblk0, place02]

theorem blk10 (c : Dev nD) (t : Fin cfg1.N) (r : Fin 200) (d : Fin 64) :
    (iblk1 V c 0 t : Vec Ideal S200x64 .f32) (ix2 r d)
      = (V c main_v3 : Vec Ideal S5000x64 .f32) (ix2 ⟨200 * t.val + r.val, by have := lt1 t; omega⟩ d) := by
  blk_ext [iblk1, place10]

theorem blk11 (c : Dev nD) (t : Fin cfg1.N) (d : Fin 64) (j : Fin 5000) :
    (iblk1 V c 1 t : Vec Ideal S64x5000 .f32) (ix2 d j) = (V c main_v2 : Vec Ideal S64x5000 .f32) (ix2 d j) := by
  blk_ext [iblk1, place11]

variable (m : (ℓ : Loc nD τ sig) → Buf (Elt Ideal) ℓ) (ρ : Dev nD → PrngReg)

/-- The column of the centers that the permuted column `j` is. -/
def unperm (j : Fin 5000) : Fin 5000 := ⟨(j.val % 1000) * 5 + j.val / 1000, by omega⟩

theorem v2_at (c : Dev nD) (d : Fin 64) (j : Fin 5000) :
    (V1 m ρ c main_v2 : Vec Ideal S64x5000 .f32) (ix2 d j)
      = (m ((c : Thread nD τ).loc main_arg2) : Vec Ideal S64x5000 .f32) (ix2 d (unperm j)) := by
  unfold V1 W1 hostOps0
  after_reads_at
  rfl

theorem v3_at (c : Dev nD) (d : Fin 64) (j : Fin 5000) :
    (V1 m ρ c main_v3 : Vec Ideal S5000x64 .f32) (ix2 j d)
      = (m ((c : Thread nD τ).loc main_arg2) : Vec Ideal S64x5000 .f32) (ix2 d (unperm j)) := by
  unfold V1 W1 hostOps0
  after_reads_at
  rfl

theorem v4_at (c : Dev nD) (t : Fin 32) (r : Fin 128) :
    (V1 m ρ c main_v4 : Vec Ideal S32x1x128 .i32) (ix3 t 0 r)
      = (m ((c : Thread nD τ).loc main_arg1) : Vec Ideal S4096 .i32) (ix1 ⟨128 * t.val + r.val, by omega⟩) := by
  unfold V1 W1 hostOps0
  after_reads_at
  rw [show (⟨t.val * 128 + r.val, by omega⟩ : Fin 4096) = ⟨128 * t.val + r.val, by omega⟩ from Fin.ext (by dsimp only; omega)]

/-! ## The rows' losses in terms of the arguments -/

/-- A row of the inputs. -/
def row (X : Vec Ideal S4096x64 .f32) (i : Fin 4096) (d : Fin 64) : EReal := X (ix2 i d)
/-- A column of the centers. -/
def col (C : Vec Ideal S64x5000 .f32) (j : Fin 5000) (d : Fin 64) : EReal := C (ix2 d j)

/-- The biased similarities of an input row, over the permuted columns. -/
def near (X : Vec Ideal S4096x64 .f32) (T : Vec Ideal S4096 .i32) (C : Vec Ideal S64x5000 .f32) (i : Fin 4096) (j : Fin 5000) : EReal :=
  sim (row X i) (col C (unperm j)) + bit (BitVec.ofNat 32 (j.val % 1000) = T (ix1 i))

/-- The logits of an input row. -/
def logitsK (X : Vec Ideal S4096x64 .f32) (T : Vec Ideal S4096 .i32) (C : Vec Ideal S64x5000 .f32) (i : Fin 4096) : Fin 1000 → EReal :=
  pool fun j => bit ((bisect (near X T C i) 24).1 < near X T C i j) * sim (row X i) (col C (unperm j))

/-- The loss of an input row. -/
def rowLoss (X : Vec Ideal S4096x64 .f32) (T : Vec Ideal S4096 .i32) (C : Vec Ideal S64x5000 .f32) (i : Fin 4096) : EReal :=
  lossK (scores (logitsK X T C i) (T (ix1 i))) (T (ix1 i))

/-- One where an input row's target has the greatest score. -/
def rowWins (X : Vec Ideal S4096x64 .f32) (T : Vec Ideal S4096 .i32) (C : Vec Ideal S64x5000 .f32) (i : Fin 4096) : EReal :=
  wins (scores (logitsK X T C i) (T (ix1 i))) (T (ix1 i))

/-- One where an input row's target has a positive score. -/
def rowPos (X : Vec Ideal S4096x64 .f32) (T : Vec Ideal S4096 .i32) (C : Vec Ideal S64x5000 .f32) (i : Fin 4096) : EReal :=
  pos (scores (logitsK X T C i) (T (ix1 i))) (T (ix1 i))

/-- The loss of a permuted column of the centers. -/
def colLoss (C : Vec Ideal S64x5000 .f32) (j : Fin 5000) : EReal :=
  lossK (scores (pool fun k => sim (col C (unperm j)) (col C (unperm k))) (BitVec.ofNat 32 (j.val % 1000))) (BitVec.ofNat 32 (j.val % 1000))

/-- A family over the first `n` numbers continued by zero. -/
def ext {n : ℕ} (f : Fin n → EReal) (i : ℕ) : EReal := if h : i < n then f ⟨i, h⟩ else 0

theorem ext_sum {n : ℕ} (f : Fin n → EReal) : ∑ i ∈ Finset.range n, ext f i = ∑ i, f i := by
  rw [Finset.sum_range]
  exact Finset.sum_congr rfl fun i _ => dif_pos i.isLt

/-- The inputs as launched on core `c`. -/
def aX (c : Dev nD) : Vec Ideal S4096x64 .f32 := m ((c : Thread nD τ).loc main_arg0)
/-- The targets as launched on core `c`. -/
def aT (c : Dev nD) : Vec Ideal S4096 .i32 := m ((c : Thread nD τ).loc main_arg1)
/-- The centers as launched on core `c`. -/
def aC (c : Dev nD) : Vec Ideal S64x5000 .f32 := m ((c : Thread nD τ).loc main_arg2)

theorem x_at (c : Dev nD) (t : Fin cfg0.N) (r : Fin 128) :
    (fun d => (iblk0 (V1 m ρ) c 0 t : Vec Ideal S128x64 .f32) (ix2 r d))
      = row (aX m c) ⟨128 * t.val + r.val, by have := lt0 t; omega⟩ := by
  funext d
  rw [blk00, show V1 m ρ c main_arg0 = m ((c : Thread nD τ).loc main_arg0) from W1_args m ρ c main_arg0 (by decide)]
  rfl

theorem c_at (c : Dev nD) (t : Fin cfg0.N) (j : Fin 5000) :
    (fun d => (iblk0 (V1 m ρ) c 1 t : Vec Ideal S64x5000 .f32) (ix2 d j)) = col (aC m c) (unperm j) := by
  funext d
  rw [blk01, v2_at]; rfl

theorem t_at (c : Dev nD) (t : Fin cfg0.N) (r : Fin 128) :
    (iblk0 (V1 m ρ) c 2 t : Vec Ideal S1x1x128 .i32) (ix3 0 0 r) = aT m c (ix1 ⟨128 * t.val + r.val, by have := lt0 t; omega⟩) := by
  rw [blk02, v4_at]; rfl

theorem v2_at' (c : Dev nD) (d : Fin 64) (j : Fin 5000) :
    (V2 m ρ c main_v2 : Vec Ideal S64x5000 .f32) (ix2 d j) = col (aC m c) (unperm j) d := by
  rw [show V2 m ρ c main_v2 = V1 m ρ c main_v2 from W2_of m ρ c main_v2 (by decide +kernel)]
  exact v2_at m ρ c d j

theorem v3_at' (c : Dev nD) (d : Fin 64) (j : Fin 5000) :
    (V2 m ρ c main_v3 : Vec Ideal S5000x64 .f32) (ix2 j d) = col (aC m c) (unperm j) d := by
  rw [show V2 m ρ c main_v3 = V1 m ρ c main_v3 from W2_of m ρ c main_v3 (by decide +kernel)]
  exact v3_at m ρ c d j

theorem step_picked (c : Dev nD) (t : Fin cfg0.N) (r : Fin 128) (w : BitVec 32)
    (hw : w = aT m c (ix1 ⟨128 * t.val + r.val, by have := lt0 t; omega⟩)) :
    pool (picked (iblk0 (V1 m ρ) c 0 t) (iblk0 (V1 m ρ) c 1 t) w r)
      = logitsK (aX m c) (aT m c) (aC m c) ⟨128 * t.val + r.val, by have := lt0 t; omega⟩ := by
  have hb : biased (iblk0 (V1 m ρ) c 0 t) (iblk0 (V1 m ρ) c 1 t) w r
      = near (aX m c) (aT m c) (aC m c) ⟨128 * t.val + r.val, by have := lt0 t; omega⟩ := by
    funext j
    unfold biased near
    rw [x_at, c_at, hw]
  unfold logitsK
  refine congrArg pool (funext fun j => ?_)
  unfold picked
  rw [hb, x_at, c_at]

/-- The main call's accumulator after `n` blocks, in its first lane: the losses of the first `128 n` rows. -/
theorem accMain_at (c : Dev nD) : ∀ n ≤ 32, (accMain (V1 m ρ) c n : Vec Ideal S1x128 .f32) (ix2 0 0)
      = ∑ i ∈ Finset.range (128 * n), ext (rowLoss (aX m c) (aT m c) (aC m c)) i
  | 0, _ => by
    rw [accMain]
    unfold k0_pay1
    pointwise
    rfl
  | n + 1, h => by
    have hN : cfg0.N = 32 := N_0
    have hn : n < cfg0.N := by omega
    rw [accMain, dif_pos hn, stepMain_at, accMain_at c n (by omega), Nat.mul_succ, Finset.sum_range_add]
    refine congrArg (_ + ·) ?_
    rw [Finset.sum_range]
    refine Finset.sum_congr rfl fun r _ => ?_
    rw [t_at m ρ c ⟨n, hn⟩ r, step_picked m ρ c ⟨n, hn⟩ r _ rfl]
    unfold ext
    rw [dif_pos (by omega)]
    rfl

/-- The main call's accumulator after `n` blocks, in its second lane: the number of the first `128 n` rows whose target has the
    greatest score. -/
theorem accMain_second (c : Dev nD) : ∀ n ≤ 32, (accMain (V1 m ρ) c n : Vec Ideal S1x128 .f32) (ix2 0 1)
      = ∑ i ∈ Finset.range (128 * n), ext (rowWins (aX m c) (aT m c) (aC m c)) i
  | 0, _ => by
    rw [accMain]
    unfold k0_pay1
    pointwise
    rfl
  | n + 1, h => by
    have hN : cfg0.N = 32 := N_0
    have hn : n < cfg0.N := by omega
    rw [accMain, dif_pos hn, stepMain_second, accMain_second c n (by omega), Nat.mul_succ, Finset.sum_range_add]
    refine congrArg (_ + ·) ?_
    rw [Finset.sum_range]
    refine Finset.sum_congr rfl fun r _ => ?_
    rw [t_at m ρ c ⟨n, hn⟩ r, step_picked m ρ c ⟨n, hn⟩ r _ rfl]
    unfold ext
    rw [dif_pos (by omega)]
    rfl

/-- The main call's accumulator after `n` blocks, in its third lane: the number of the first `128 n` rows whose target has a
    positive score. -/
theorem accMain_third (c : Dev nD) : ∀ n ≤ 32, (accMain (V1 m ρ) c n : Vec Ideal S1x128 .f32) (ix2 0 2)
      = ∑ i ∈ Finset.range (128 * n), ext (rowPos (aX m c) (aT m c) (aC m c)) i
  | 0, _ => by
    rw [accMain]
    unfold k0_pay1
    pointwise
    rfl
  | n + 1, h => by
    have hN : cfg0.N = 32 := N_0
    have hn : n < cfg0.N := by omega
    rw [accMain, dif_pos hn, stepMain_third, accMain_third c n (by omega), Nat.mul_succ, Finset.sum_range_add]
    refine congrArg (_ + ·) ?_
    rw [Finset.sum_range]
    refine Finset.sum_congr rfl fun r _ => ?_
    rw [t_at m ρ c ⟨n, hn⟩ r, step_picked m ρ c ⟨n, hn⟩ r _ rfl]
    unfold ext
    rw [dif_pos (by omega)]
    rfl

/-- The regulariser's accumulator after `n` blocks, in its first lane: the losses of the first `200 n` permuted columns. -/
theorem accReg_at (c : Dev nD) : ∀ n ≤ 25, (accReg (V2 m ρ) c n : Vec Ideal S1x128 .f32) (ix2 0 0)
      = ∑ i ∈ Finset.range (200 * n), ext (colLoss (aC m c)) i
  | 0, _ => by
    rw [accReg]
    unfold k1_pay1
    pointwise
    rfl
  | n + 1, h => by
    have hN : cfg1.N = 25 := N_1
    have hn : n < cfg1.N := by omega
    rw [accReg, dif_pos hn, (place1 ⟨n, hn⟩).2.2]
    rw [stepReg_at ⟨n, by omega⟩, accReg_at c n (by omega), Nat.mul_succ, Finset.sum_range_add]
    refine congrArg (_ + ·) ?_
    rw [Finset.sum_range]
    refine Finset.sum_congr rfl fun r _ => ?_
    unfold ext
    rw [dif_pos (by omega)]
    unfold colLoss
    have hx : ∀ j : Fin 5000, sim (fun d => (iblk1 (V2 m ρ) c 0 ⟨n, hn⟩ : Vec Ideal S200x64 .f32) (ix2 r d))
        (fun d => (iblk1 (V2 m ρ) c 1 ⟨n, hn⟩ : Vec Ideal S64x5000 .f32) (ix2 d j))
        = sim (col (aC m c) (unperm ⟨200 * n + r.val, by omega⟩)) (col (aC m c) (unperm j)) := fun j => by
      refine congrArg₂ sim (funext fun d => ?_) (funext fun d => ?_)
      · rw [blk10, v3_at']
      · rw [blk11, v2_at']
    simp only [hx]

/-- The kernel's result: the mean loss of the rows plus 0.03 times the mean loss of the centers. -/
theorem result_at (c : Dev nD) : (W4 m ρ c (Proc.devRef .tc main_v14) : FVec Ideal S_ .f32)
    = fun _ => Ideal.div (∑ i, rowLoss (aX m c) (aT m c) (aC m c) i) (Ideal.ofBits .f32 0x45800000#32)
        + Ideal.ofBits .f32 0x3CF5C28F#32 * Ideal.div (∑ j, colLoss (aC m c) j) (Ideal.ofBits .f32 0x459C4000#32) := by
  rw [W4_result]
  funext i
  rw [← ext_sum, ← ext_sum, ← accMain_at m ρ c 32 le_rfl, ← accReg_at m ρ c 25 le_rfl]
  unfold tail
  pointwise

/-- The kernel's second result: the share of the rows whose target has the greatest score, in hundredths. -/
theorem second_at (c : Dev nD) : (W4 m ρ c (Proc.devRef .tc main_v18) : FVec Ideal S_ .f32)
    = fun _ => Ideal.div (∑ i, rowWins (aX m c) (aT m c) (aC m c) i) (Ideal.ofBits .f32 0x45800000#32) * Ideal.ofBits .f32 0x42C80000#32 := by
  rw [W4_second]
  funext i
  rw [← ext_sum, ← accMain_second m ρ c 32 le_rfl]
  unfold share
  pointwise

/-- The kernel's third result: one minus the share of the rows whose target has a positive score. -/
theorem third_at (c : Dev nD) : (W4 m ρ c (Proc.devRef .tc main_v22) : FVec Ideal S_ .f32)
    = fun _ => 1 - Ideal.div (∑ i, rowPos (aX m c) (aT m c) (aC m c) i) (Ideal.ofBits .f32 0x45800000#32) := by
  rw [W4_third]
  funext i
  rw [← ext_sum, ← accMain_third m ρ c 32 le_rfl]
  unfold rest
  pointwise

end Cert.KernelIdeal.Loss
-- ==== Proof.Pool.lean ====
/- The two orders of the centers' columns, and the sums over a class's columns. -/
module

public import proofs.«01_k».proof.Proof.KLoss

@[expose] public section

set_option maxRecDepth 16384

noncomputable section

open Idealize.ShloMosaic Idealize.ShloMosaic.TcCoe Idealize.ShloMosaic.Pointwise
open Cert.Spec

namespace Cert.KernelIdeal.Loss

open Cert.KernelIdeal

/-- The permutation of the columns. -/
def unpermEquiv : Fin 5000 ≃ Fin 5000 where
  toFun := unperm
  invFun j := ⟨(j.val % 5) * 1000 + j.val / 5, by omega⟩
  left_inv j := Fin.ext (by unfold unperm; dsimp only; omega)
  right_inv j := Fin.ext (by unfold unperm; dsimp only; omega)

/-- The class of a permuted column. -/
theorem unperm_div (j : Fin 5000) : (unperm j).val / 5 = j.val % 1000 := by
  unfold unperm; dsimp only; omega

/-- Words of numbers below 5000 are equal when the numbers are. -/
theorem word_inj {a b : ℕ} (ha : a < 5000) (hb : b < 5000) : BitVec.ofNat 32 a = BitVec.ofNat 32 b ↔ a = b := by
  constructor
  · intro h
    have := congrArg BitVec.toNat h
    simp only [BitVec.toNat_ofNat] at this
    omega
  · rintro rfl; rfl

/-- The sum over a class's columns, written as a product with the class's indicator and as five terms. -/
theorem pool_eq (h : Fin 5000 → EReal) (c : Fin 1000) :
    ∑ j : Fin 5000, h j * bit (BitVec.ofNat 32 c.val = BitVec.ofNat 32 (j.val / 5)) = pool (fun j => h (unperm j)) c := by
  have e : ∀ j : Fin 5000, h j * bit (BitVec.ofNat 32 c.val = BitVec.ofNat 32 (j.val / 5)) = if j.val / 5 = c.val then h j else 0 := by
    intro j
    unfold bit
    by_cases hj : j.val / 5 = c.val
    · rw [if_pos ((word_inj (by omega) (by omega)).mpr hj.symm), if_pos hj, mul_one]
    · rw [if_neg fun q => hj ((word_inj (by omega) (by omega)).mp q).symm, if_neg hj, mul_zero]
  simp only [e]
  rw [← (finProdFinEquiv (m := 1000) (n := 5)).sum_comp, Fintype.sum_prod_type]
  rw [Finset.sum_eq_single c]
  · rw [Fin.sum_univ_five]
    unfold Spec.pool
    have k : ∀ (q : Fin 5) (p : Fin 5000), p.val = q.val * 1000 + c.val →
        (if (finProdFinEquiv (c, q) : Fin (1000 * 5)).val / 5 = c.val then h (finProdFinEquiv (c, q)) else 0) = h (unperm p) := by
      intro q p hp
      have v : (finProdFinEquiv (c, q) : Fin (1000 * 5)).val = q.val + 5 * c.val := rfl
      rw [if_pos (by rw [v]; omega)]
      refine congrArg h (Fin.ext ?_)
      rw [v]
      unfold unperm
      dsimp only
      omega
    rw [k 0 ⟨c.val, by omega⟩ (by simp), k 1 ⟨1000 + c.val, by omega⟩ (by simp), k 2 ⟨2000 + c.val, by omega⟩ (by simp),
      k 3 ⟨3000 + c.val, by omega⟩ (by simp), k 4 ⟨4000 + c.val, by omega⟩ (by simp)]
  · intro c' _ hc
    refine Finset.sum_eq_zero fun q _ => ?_
    have v : (finProdFinEquiv (c', q) : Fin (1000 * 5)).val = q.val + 5 * c'.val := rfl
    rw [if_neg]
    intro hq
    rw [v] at hq
    exact hc (Fin.ext (by omega))
  · intro hc
    exact absurd (Finset.mem_univ c) hc

end Cert.KernelIdeal.Loss
-- ==== Proof.Select.lean ====
/- The bisection finds a threshold that selects the 500 greatest entries. -/
module

public import proofs.«01_k».proof.Proof.Spec

@[expose] public section

set_option maxRecDepth 16384

noncomputable section

open Idealize.ShloMosaic Idealize.ShloMosaic.TcCoe Idealize.ShloMosaic.Pointwise
open Cert.Spec

namespace Cert.Spec

theorem midBits : Ideal.ofBits .f32 0x3F000000#32 = ((1 / 2 : ℝ) : EReal) := by
  rw [ofBits_pos 126 0 (by decide) (by decide) (by decide) (by decide) (by decide)]
  norm_num
theorem cntBits : Ideal.ofBits .f32 0x43FA0000#32 = ((500 : ℝ) : EReal) := by
  rw [ofBits_pos 135 7995392 (by decide) (by decide) (by decide) (by decide) (by decide)]
  norm_num
theorem loBits : Ideal.ofBits .f32 0xBF8147AE#32 = ((-(8472494 / 8388608) : ℝ) : EReal) := by
  rw [ofBits_neg 127 83886 (by decide) (by decide) (by decide) (by decide) (by decide)]
  norm_num
theorem hiBits : Ideal.ofBits .f32 0x4000A3D7#32 = ((16861102 / 8388608 : ℝ) : EReal) := by
  rw [ofBits_pos 128 41943 (by decide) (by decide) (by decide) (by decide) (by decide)]
  norm_num
/-- The least gap between selected and other entries. -/
theorem gapBits : Ideal.ofBits .f32 0x3456BF95#32 = ((14073749 / 2 ^ 46 : ℝ) : EReal) := by
  rw [ofBits_pos 104 5685141 (by decide) (by decide) (by decide) (by decide) (by decide)]
  norm_num

/-- A sum of flags counts. -/
theorem sum_bit {ι : Type} [Fintype ι] (p : ι → Prop) [DecidablePred p] :
    ∑ j, bit (p j) = ((((Finset.univ.filter p).card : ℕ) : ℝ) : EReal) := by
  unfold bit
  rw [Finset.sum_ite, Finset.sum_const_zero, add_zero, Finset.sum_const, EReal.nsmul_eq_mul, mul_one]
  rfl

/-- How many entries exceed `x`. -/
def above {n : ℕ} (r : Fin n → ℝ) (x : ℝ) : ℕ := (Finset.univ.filter fun j => x < r j).card

/-- One trip keeps 500 entries above the lower end, fewer above the upper one, and halves the interval. -/
theorem half_step {n : ℕ} (r : Fin n → ℝ) (lo hi : ℝ) (h1 : 500 ≤ above r lo) (h2 : above r hi < 500) :
    ∃ lo' hi' : ℝ, half (fun j => (r j : EReal)) ((lo : EReal), (hi : EReal)) = ((lo' : EReal), (hi' : EReal))
      ∧ 500 ≤ above r lo' ∧ above r hi' < 500 ∧ hi' - lo' = (hi - lo) / 2 := by
  have hm : ((1 / 2 : ℝ) : EReal) * ((lo : EReal) + (hi : EReal)) = ((1 / 2 * (lo + hi) : ℝ) : EReal) := by
    rw [← EReal.coe_add, ← EReal.coe_mul]
  unfold half
  simp only [midBits, cntBits, hm, sum_bit, EReal.coe_lt_coe_iff, EReal.coe_le_coe_iff]
  by_cases h : 500 ≤ above r (1 / 2 * (lo + hi))
  · rw [if_pos (by exact_mod_cast h)]
    exact ⟨_, _, rfl, h, h2, by ring⟩
  · rw [if_neg (by
      intro hc
      refine h ?_
      unfold above
      exact_mod_cast hc)]
    exact ⟨_, _, rfl, h1, by omega, by ring⟩

/-- The interval after `k` trips. -/
theorem bisect_real {n : ℕ} (r : Fin n → ℝ) (h1 : 500 ≤ above r (-(8472494 / 8388608))) (h2 : above r (16861102 / 8388608) < 500)
    (k : ℕ) : ∃ lo hi : ℝ, bisect (fun j => (r j : EReal)) k = ((lo : EReal), (hi : EReal))
      ∧ 500 ≤ above r lo ∧ above r hi < 500 ∧ hi - lo = 25333596 / 8388608 / 2 ^ k := by
  induction k with
  | zero =>
    refine ⟨_, _, ?_, h1, h2, ?_⟩
    · unfold bisect
      rw [loBits, hiBits]
      rfl
    · norm_num
  | succ k ih =>
    obtain ⟨lo, hi, e, a, b, w⟩ := ih
    obtain ⟨lo', hi', e', a', b', w'⟩ := half_step r lo hi a b
    refine ⟨lo', hi', ?_, a', b', ?_⟩
    · unfold bisect at e ⊢
      rw [Function.iterate_succ_apply', e, e']
    · rw [w', w, pow_succ]
      ring

/-- When 500 entries exceed every other one by more than the gap, the lower end after 24 trips is below exactly those. -/
theorem bisect_select {n : ℕ} (r : Fin n → ℝ) (hl : ∀ j, -1 ≤ r j) (hu : ∀ j, r j ≤ 2) (T : Finset (Fin n)) (hT : T.card = 500)
    (hg : ∀ i ∈ T, ∀ j, j ∉ T → 14073749 / 2 ^ 46 < r i - r j) (j : Fin n) :
    (bisect (fun j => (r j : EReal)) 24).1 < (r j : EReal) ↔ j ∈ T := by
  have h1 : 500 ≤ above r (-(8472494 / 8388608)) := by
    rw [← hT]
    refine Finset.card_le_card fun i _ => Finset.mem_filter.mpr ⟨Finset.mem_univ _, ?_⟩
    have := hl i
    norm_num
    linarith
  have h2 : above r (16861102 / 8388608) < 500 := by
    have : above r (16861102 / 8388608) = 0 := by
      refine Finset.card_eq_zero.mpr (Finset.filter_eq_empty_iff.mpr fun i _ => ?_)
      have := hu i
      norm_num
      linarith
    omega
  obtain ⟨lo, hi, e, a, b, w⟩ := bisect_real r h1 h2 24
  rw [e, EReal.coe_lt_coe_iff]
  constructor
  · intro h
    by_contra hj
    refine absurd b (not_lt.mpr ?_)
    rw [← hT]
    refine Finset.card_le_card fun i hi' => Finset.mem_filter.mpr ⟨Finset.mem_univ _, ?_⟩
    have := hg i hi' j hj
    norm_num at w this
    linarith
  · intro h
    by_contra hj
    refine absurd a (not_le.mpr ?_)
    rw [← hT]
    refine Finset.card_lt_card ((Finset.ssubset_iff_of_subset fun i hi' => ?_).mpr ⟨j, h, fun hc => hj (Finset.mem_filter.mp hc).2⟩)
    by_contra hi''
    have := hg j h i hi''
    have h3 := (Finset.mem_filter.mp hi').2
    norm_num at this
    linarith

/-- The bisection does not depend on the order of the entries. -/
theorem bisect_perm {n : ℕ} (s : Fin n → EReal) (e : Fin n ≃ Fin n) (k : ℕ) : bisect (fun j => s (e j)) k = bisect s k := by
  have : half (fun j => s (e j)) = half s := by
    funext a
    unfold half
    rw [Equiv.sum_comp e fun j => bit (Ideal.ofBits .f32 0x3F000000#32 * (a.1 + a.2) < s j)]
  unfold bisect
  rw [this]

end Cert.Spec
-- ==== Proof.Pre.lean ====
/- What the precondition says of a row of the biased similarities and of its target. -/
module

public import proofs.«01_k».proof.Pre_separated
public import proofs.«01_k».proof.Proof.RShare
public import proofs.«01_k».proof.Proof.Select

@[expose] public section

set_option maxRecDepth 16384

noncomputable section

open Idealize.ShloMosaic Idealize.ShloMosaic.TcCoe Idealize.ShloMosaic.Pointwise
open Cert.Spec

namespace Cert.Pre_separated

open Cert.ReferenceIdeal.Rows Cert.ReferenceIdeal.Mask Cert.ReferenceIdeal.Loss Cert.ReferenceIdeal.Share

/-- The precondition's shape facts. -/
instance facts : Facts where
  bcast_S1000_S1000x5_0 := by decide
  shapeCasts_S1000x5_S5000 := by decide
  reducesTo_S4096x64_S4096_d1 := by decide
  h_S_ := by decide
  bcast_S4096_S4096x1_0 := by decide
  bcast_S_S4096x1 := by decide
  bcast_S4096x1_S4096x64_0_1 := by decide
  reducesTo_S64x5000_S5000_d0 := by decide
  bcast_S5000_S1x5000_1 := by decide
  bcast_S_S1x5000 := by decide
  bcast_S1x5000_S64x5000_0_1 := by decide
  bcast_S4096x1_S4096x5000_0_1 := by decide
  bcast_S1x5000_S4096x5000_0_1 := by decide
  bcast_S_S4096x5000 := by decide
  sliceFits_S4096x5000_S4096x501 := by decide
  slices_S4096x501_S4096x1_0_499 := by decide
  shapeCasts_S4096x1_S4096 := by decide
  slices_S4096x501_S4096x1_0_500 := by decide
  bcast_S_S4096 := by decide
  sliceFits_S4096x5000_S4096x500 := by decide
  bcast_S_S4096x500 := by decide
  bcast_S4096x1_S4096x500_0_1 := by decide
  bcast_S4096x500_S4096x500x1_0_1 := by decide
  concatenates_S4096x500x1_S4096x500x1_S4096x500x2_d2 := by decide
  shapeCasts_S4096x5000_S4096x1000x5 := by decide
  reducesTo_S4096x1000x5_S4096x1000_d2 := by decide
  bcast_S_S4096x1000 := by decide
  reducesTo_S4096x1000_S4096_d1 := by decide
  reducesTo_S4096x1000_S_d0_1 := by decide
  reducesTo_S4096x1_S_d0_1 := by decide
  bcast_S4096x1_S4096x1000_0_1 := by decide
  bcast_S1x1000_S4096x1000_0_1 := by decide
  scatter_S4096x5000_S4096x500x2_S4096x500_n_01_01_2_wf := Cert.ReferenceIdeal.Gen.scatter_S4096x5000_S4096x500x2_S4096x500_n_01_01_2_wf
  dot_S4096x64_S64x5000_S4096x5000_1_0_0_1_n_n_wf := Cert.ReferenceIdeal.Gen.dot_S4096x64_S64x5000_S4096x5000_1_0_0_1_n_n_wf

/-- The 501 greatest entries of every row. -/
def best (S : FVec Ideal S4096x5000 .f32) : FVec Ideal S4096x501 .f32 :=
  (Host.topK S4096x501 1 (FloatOps.cmpfTotal .gt) S Facts.sliceFits_S4096x5000_S4096x501).1

/-- A class's five columns on an axis of their own. -/
def cells (P : FVec Ideal S4096x5000 .f32) : FVec Ideal S4096x1000x5 .f32 :=
  shapeCast S4096x1000x5 P Facts.shapeCasts_S4096x5000_S4096x1000x5

theorem cells_at (P : FVec Ideal S4096x5000 .f32) (i : Fin 4096) (c : Fin 1000) (k : Fin 5) :
    cells P (ix3 i c k) = P (ix2 i ⟨k.val + 5 * c.val, by omega⟩) := by
  unfold cells
  pointwise
  refine congrArg P (congrArg (ix2 i) (Fin.ext ?_))
  dsimp only
  omega

/-- The sum over a class's columns. -/
def sumCells (A : FVec Ideal S4096x1000x5 .f32) : FVec Ideal S4096x1000 .f32 :=
  Host.reduceAdd A (constant S_ .f32 0x00000000#32) Facts.reducesTo_S4096x1000x5_S4096x1000_d2 Facts.h_S_

theorem sumCells_at (A : FVec Ideal S4096x1000x5 .f32) (i : Fin 4096) (c : Fin 1000) :
    sumCells A (ix2 i c) = ∑ k : Fin 5, A (ix3 i c k) := by
  unfold sumCells
  pointwise

theorem times_at (A B : FVec Ideal S4096x5000 .f32) (p : S4096x5000.Idx) : mulf A B p = A p * B p := rfl

/-- The logits of every row, each the sum of a class's five masked similarities. -/
def logitsS (X : FVec Ideal S4096x64 .f32) (T : IVec S4096 32) (C : FVec Ideal S64x5000 .f32) : FVec Ideal S4096x1000 .f32 :=
  sumCells (cells (mulf (topMask (biasedR X T C)) (sims X C)))

theorem logitsS_at (X : FVec Ideal S4096x64 .f32) (T : IVec S4096 32) (C : FVec Ideal S64x5000 .f32) (i : Fin 4096) (c : Fin 1000) :
    logitsS X T C (ix2 i c) = ∑ k : Fin 5, topMask (biasedR X T C) (ix2 i ⟨k.val + 5 * c.val, by omega⟩)
      * sims X C (ix2 i ⟨k.val + 5 * c.val, by omega⟩) := by
  unfold logitsS
  rw [sumCells_at]
  refine Finset.sum_congr rfl fun k _ => ?_
  rw [cells_at, times_at]

/-- The target's score of every row. -/
def own (O H : FVec Ideal S4096x1000 .f32) : FVec Ideal S4096x1 .f32 :=
  broadcastInDim S4096x1 ![0] Facts.bcast_S4096_S4096x1_0 (Host.reduceAdd (mulf H O) (constant S_ .f32 0x00000000#32)
    Facts.reducesTo_S4096x1000_S4096_d1 Facts.h_S_)

theorem own_at (O H : FVec Ideal S4096x1000 .f32) (i : Fin 4096) : own O H (ix2 i 0) = ∑ c : Fin 1000, H (ix2 i c) * O (ix2 i c) := by
  unfold own
  pointwise

/-- The number of the other classes with the target's score. -/
def ties (O H : FVec Ideal S4096x1000 .f32) (w : FVec Ideal S4096x1 .f32) : FVec Ideal S4096 .f32 :=
  Host.reduceAdd (mulf (subf (broadcastInDim S4096x1000 ![] Facts.bcast_S_S4096x1000 (constant S_ .f32 0x3F800000#32)) H)
    (uitofp .f32 (cmpf .oeq O (broadcastInDim S4096x1000 ![0, 1] Facts.bcast_S4096x1_S4096x1000_0_1 w)))) (constant S_ .f32 0x00000000#32)
    Facts.reducesTo_S4096x1000_S4096_d1 Facts.h_S_

theorem ties_at (O H : FVec Ideal S4096x1000 .f32) (w : FVec Ideal S4096x1 .f32) (i : Fin 4096) :
    ties O H w (ix1 i) = ∑ c : Fin 1000, (1 - H (ix2 i c)) * bit (O (ix2 i c) = w (ix2 i 0)) := by
  unfold ties
  pointwise
  simp only [flag]

/-- The number of the other entries with a positive score. -/
def others (O H : FVec Ideal S4096x1000 .f32) : FVec Ideal S_ .f32 :=
  Host.reduceAdd (mulf (subf (broadcastInDim S4096x1000 ![] Facts.bcast_S_S4096x1000 (constant S_ .f32 0x3F800000#32)) H)
    (uitofp .f32 (cmpf .ogt O (broadcastInDim S4096x1000 ![] Facts.bcast_S_S4096x1000 (constant S_ .f32 0x00000000#32)))))
    (constant S_ .f32 0x00000000#32) Facts.reducesTo_S4096x1000_S_d0_1 Facts.h_S_

theorem others_at (O H : FVec Ideal S4096x1000 .f32) :
    others O H ix0 = ∑ i : Fin 4096, ∑ c : Fin 1000, (1 - H (ix2 i c)) * bit (0 < O (ix2 i c)) := by
  unfold others
  pointwise
  simp only [flag]

/-- The number of the rows whose target's score is positive. -/
def positives (w : FVec Ideal S4096x1 .f32) : FVec Ideal S_ .f32 :=
  Host.reduceAdd (uitofp .f32 (cmpf .ogt w (broadcastInDim S4096x1 ![] Facts.bcast_S_S4096x1 (constant S_ .f32 0x00000000#32))))
    (constant S_ .f32 0x00000000#32) Facts.reducesTo_S4096x1_S_d0_1 Facts.h_S_

theorem positives_at (w : FVec Ideal S4096x1 .f32) : positives w ix0 = ∑ i : Fin 4096, bit (0 < w (ix2 i 0)) := by
  unfold positives
  pointwise
  simp only [flag]
  exact Finset.sum_congr rfl fun i _ => Fin.sum_univ_one _

/-- The test of the number of the other positive scores. -/
def crossing (a b : FVec Ideal S_ .f32) : IVec S_ 1 :=
  cmpf .ole a (mulf (constant S_ .f32 0x4479C000#32) (subf (constant S_ .f32 0x45800000#32) b))

theorem crossing_at (a b : FVec Ideal S_ .f32) :
    crossing a b ix0 = BitVec.ofBool (decide (a ix0 ≤ Ideal.ofBits .f32 0x4479C000#32 * (Ideal.ofBits .f32 0x45800000#32 - b ix0))) := by
  unfold crossing
  pointwise

/-- The test of the targets, of the two entries at the selection's boundary, of the ties with the target's score, of the
    target's score itself, and of the number of positive scores. -/
def test (T : IVec S4096 32) (v : FVec Ideal S4096x501 .f32) (n : FVec Ideal S4096 .f32) (w : FVec Ideal S4096x1 .f32) (g : IVec S_ 1) :
    IVec S4096 1 :=
  andi (andi (andi (andi (andi (cmpi .sge T (broadcastInDim S4096 ![] Facts.bcast_S_S4096 (constantI S_ 32 0#32)))
      (cmpi .slt T (broadcastInDim S4096 ![] Facts.bcast_S_S4096 (constantI S_ 32 1000#32))))
    (cmpf .ogt (subf (shapeCast S4096 (extractStridedSlice S4096x1 ![0, 499] v Facts.slices_S4096x501_S4096x1_0_499) Facts.shapeCasts_S4096x1_S4096)
        (shapeCast S4096 (extractStridedSlice S4096x1 ![0, 500] v Facts.slices_S4096x501_S4096x1_0_500) Facts.shapeCasts_S4096x1_S4096))
      (broadcastInDim S4096 ![] Facts.bcast_S_S4096 (constant S_ .f32 0x3456BF95#32))))
    (cmpf .oeq n (broadcastInDim S4096 ![] Facts.bcast_S_S4096 (constant S_ .f32 0x00000000#32))))
    (cmpf .une (shapeCast S4096 w Facts.shapeCasts_S4096x1_S4096) (broadcastInDim S4096 ![] Facts.bcast_S_S4096 (constant S_ .f32 0x00000000#32))))
    (broadcastInDim S4096 ![] Facts.bcast_S_S4096 g)

theorem test_at (T : IVec S4096 32) (v : FVec Ideal S4096x501 .f32) (n : FVec Ideal S4096 .f32) (w : FVec Ideal S4096x1 .f32) (g : IVec S_ 1)
    (i : Fin 4096) :
    test T v n w g (ix1 i) = IntOp.andi (IntOp.andi (IntOp.andi (IntOp.andi (IntOp.andi (IntOp.cmpi .sge (T (ix1 i)) 0#32) (IntOp.cmpi .slt (T (ix1 i)) 1000#32))
      (BitVec.ofBool (decide (Ideal.ofBits .f32 0x3456BF95#32 < v (ix2 i ⟨499, by omega⟩) - v (ix2 i ⟨500, by omega⟩)))))
      (BitVec.ofBool (decide (n (ix1 i) = 0)))) (BitVec.ofBool (decide (w (ix2 i 0) ≠ 0)))) (g ix0) := by
  unfold test
  pointwise

theorem fn_eq (X : FVec Ideal S4096x64 .f32) (T : IVec S4096 32) (C : FVec Ideal S64x5000 .f32) :
    fn X T C = test T (best (biasedR X T C)) (ties (outs (logitsS X T C) T) (hot4096 T) (own (outs (logitsS X T C) T) (hot4096 T)))
      (own (outs (logitsS X T C) T) (hot4096 T))
      (crossing (others (outs (logitsS X T C) T) (hot4096 T)) (positives (own (outs (logitsS X T C) T) (hot4096 T)))) := rfl

theorem both : ∀ a b : BitVec 1, IntOp.andi a b = 1#1 → a = 1#1 ∧ b = 1#1 := by decide

theorem word_range (x : BitVec 32) (h0 : IntOp.cmpi .sge x 0#32 = 1#1) (h1 : IntOp.cmpi .slt x 1000#32 = 1#1) :
    ∃ t : Fin 1000, x = BitVec.ofNat 32 t.val := by
  have on : ∀ b : Bool, BitVec.ofBool b = 1#1 → b = true := by decide
  have a : x.toInt ≥ 0 := by
    have := on _ h0
    rw [BitVec.sle_iff_toInt_le] at this
    exact this
  have b : x.toInt < 1000 := by
    have := on _ h1
    rw [BitVec.slt_iff_toInt_lt] at this
    exact this
  have hx := x.isLt
  rw [BitVec.toInt_eq_toNat_cond] at a b
  have hn : x.toNat < 1000 := by
    split at a <;> split at b <;> omega
  exact ⟨⟨x.toNat, hn⟩, by simp⟩

/-- Every target names a class. -/
theorem target_class (X : FVec Ideal S4096x64 .f32) (T : IVec S4096 32) (C : FVec Ideal S64x5000 .f32) (h : fn X T C = fun _ => 1#1)
    (i : Fin 4096) : ∃ t : Fin 1000, T (ix1 i) = BitVec.ofNat 32 t.val := by
  have hi := congrFun h (ix1 i)
  rw [fn_eq, test_at] at hi
  obtain ⟨h1, h2⟩ := both _ _ (both _ _ (both _ _ (both _ _ (both _ _ hi).1).1).1).1
  exact word_range _ h1 h2

/-- The 500th greatest biased similarity exceeds the 501st by more than the gap. -/
theorem gap (X : FVec Ideal S4096x64 .f32) (T : IVec S4096 32) (C : FVec Ideal S64x5000 .f32) (h : fn X T C = fun _ => 1#1)
    (i : Fin 4096) : Ideal.ofBits .f32 0x3456BF95#32
      < biasedR X T C (ix2 i (ranked (fun j => biasedR X T C (ix2 i j)) ⟨499, by omega⟩))
        - biasedR X T C (ix2 i (ranked (fun j => biasedR X T C (ix2 i j)) ⟨500, by omega⟩)) := by
  have hi := congrFun h (ix1 i)
  rw [fn_eq, test_at] at hi
  have h2 := (both _ _ (both _ _ (both _ _ (both _ _ hi).1).1).1).2
  have e : ∀ (q : Fin 501), best (biasedR X T C) (ix2 i q) = biasedR X T C (ix2 i (ranked (fun j => biasedR X T C (ix2 i j)) ⟨q.val, by omega⟩)) :=
    fun q => topK_value _ _ i q (by omega)
  rw [e, e] at h2
  by_contra hc
  rw [decide_eq_false hc] at h2
  exact absurd h2 (by decide)

/-- No other class of a row has the target's score. -/
theorem untied (X : FVec Ideal S4096x64 .f32) (T : IVec S4096 32) (C : FVec Ideal S64x5000 .f32) (h : fn X T C = fun _ => 1#1)
    (i : Fin 4096) (t : Fin 1000) (ht : T (ix1 i) = BitVec.ofNat 32 t.val) (c : Fin 1000) (hc : c ≠ t) :
    scores (fun c => logitsS X T C (ix2 i c)) (T (ix1 i)) c ≠ scores (fun c => logitsS X T C (ix2 i c)) (T (ix1 i)) t := by
  have hi := congrFun h (ix1 i)
  rw [fn_eq, test_at] at hi
  have h2 := (both _ _ (both _ _ (both _ _ hi).1).1).2
  rw [ties_at, own_at] at h2
  simp only [outs_at, hot4096_at] at h2
  have on : ∀ b : Bool, BitVec.ofBool b = 1#1 → b = true := by decide
  have h3 := of_decide_eq_true (on _ h2)
  rw [ht, sum_pick] at h3
  rw [ht]
  intro he
  have hz := (Finset.sum_eq_zero_iff_of_nonneg ?_).mp h3 c (Finset.mem_univ c)
  · rw [he] at hz
    unfold bit at hz
    rw [if_neg, if_pos rfl, sub_zero, one_mul] at hz
    · exact one_ne_zero hz
    · intro hw
      have := congrArg BitVec.toNat hw
      simp only [BitVec.toNat_ofNat] at this
      exact hc (Fin.ext (by omega))
  · intro x _
    refine mul_nonneg ?_ ?_
    · rcases bit_cases (BitVec.ofNat 32 x.val = BitVec.ofNat 32 t.val) with hb | hb <;> rw [hb]
      · exact (EReal.sub_self (by decide) (by decide)).ge
      · simp
    · unfold bit
      split <;> simp

/-- The score of a row's target is not zero. -/
theorem own_ne (X : FVec Ideal S4096x64 .f32) (T : IVec S4096 32) (C : FVec Ideal S64x5000 .f32) (h : fn X T C = fun _ => 1#1)
    (i : Fin 4096) (t : Fin 1000) (ht : T (ix1 i) = BitVec.ofNat 32 t.val) :
    scores (fun c => logitsS X T C (ix2 i c)) (T (ix1 i)) t ≠ 0 := by
  have hi := congrFun h (ix1 i)
  rw [fn_eq, test_at] at hi
  have h2 := (both _ _ (both _ _ hi).1).2
  rw [own_at] at h2
  simp only [outs_at, hot4096_at] at h2
  have on : ∀ b : Bool, BitVec.ofBool b = 1#1 → b = true := by decide
  have h3 := of_decide_eq_true (on _ h2)
  rw [ht, sum_pick] at h3
  rw [ht]
  exact h3

/-- The other entries with a positive score are at most 999 times the rows whose target's score is not positive. -/
theorem crossing_le (X : FVec Ideal S4096x64 .f32) (T : IVec S4096 32) (C : FVec Ideal S64x5000 .f32) (h : fn X T C = fun _ => 1#1)
    (t : Fin 4096 → Fin 1000) (ht : ∀ i, T (ix1 i) = BitVec.ofNat 32 (t i).val) :
    ∑ i : Fin 4096, ∑ c : Fin 1000, (1 - bit (BitVec.ofNat 32 c.val = T (ix1 i))) * bit (0 < scores (fun c => logitsS X T C (ix2 i c)) (T (ix1 i)) c)
      ≤ Ideal.ofBits .f32 0x4479C000#32 * (Ideal.ofBits .f32 0x45800000#32
        - ∑ i : Fin 4096, bit (0 < scores (fun c => logitsS X T C (ix2 i c)) (T (ix1 i)) (t i))) := by
  have hi := congrFun h (ix1 0)
  rw [fn_eq, test_at] at hi
  have h2 := (both _ _ hi).2
  rw [crossing_at, others_at, positives_at] at h2
  simp only [own_at, outs_at, hot4096_at] at h2
  have on : ∀ b : Bool, BitVec.ofBool b = 1#1 → b = true := by decide
  have h3 := of_decide_eq_true (on _ h2)
  have e : ∀ i : Fin 4096, ∑ c : Fin 1000, bit (BitVec.ofNat 32 c.val = T (ix1 i)) * scores (fun c => logitsS X T C (ix2 i c)) (T (ix1 i)) c
      = scores (fun c => logitsS X T C (ix2 i c)) (T (ix1 i)) (t i) := by
    intro i
    rw [ht i]
    exact sum_pick _ _
  simp only [e] at h3
  exact h3

end Cert.Pre_separated
-- ==== Proof.Equal.lean ====
/- The kernel's loss and the reference's loss are the same function of the arguments. -/
module

public import proofs.«01_k».proof.Proof.Pool
public import proofs.«01_k».proof.Proof.Pre

@[expose] public section

set_option maxRecDepth 16384

noncomputable section

open Idealize.ShloMosaic Idealize.ShloMosaic.TcCoe Idealize.ShloMosaic.Pointwise
open Cert.Spec

namespace Cert.Equal

open Cert.ReferenceIdeal.Rows Cert.ReferenceIdeal.Mask
open Cert.KernelIdeal.Loss (row col near logitsK rowLoss colLoss unperm unpermEquiv unperm_div pool_eq)
open Cert.ReferenceIdeal.Loss (biasedR biasedR_at topMask topMask_at pooled_at sims_at logitsR logitsC logitsC_at lab lab_at loss4096 loss5000
  loss4096_at loss5000_at total total_at)
open Cert.KernelIdeal.Loss (rowWins)
open Cert.ReferenceIdeal.Share (hits hits_at firstCol firstCol_at outs outs_at order first_wins)
open Cert.Pre_separated (logitsS logitsS_at)

abbrev TX := FVec Ideal ⟨2, ![4096, 64]⟩ .f32
abbrev TT := IVec ⟨1, ![4096]⟩ 32
abbrev TC := FVec Ideal ⟨2, ![64, 5000]⟩ .f32

theorem bit_congr {p q : Prop} [Decidable p] [Decidable q] (h : p ↔ q) : bit p = bit q := by
  unfold bit
  exact if_congr h rfl rfl

/-- In an order in which numbers fall, and fall by more than the gap after the 500th place, the first 500 are the ones above the bisection's lower end. -/
theorem select_order (s : Fin 5000 → EReal) (f : Fin 5000 → Fin 5000) (hf : Function.Bijective f)
    (ha : ∀ i j, i < j → s (f j) ≤ s (f i)) (r : Fin 5000 → ℝ) (hs : ∀ j, s j = (r j : EReal)) (hl : ∀ j, -1 ≤ r j) (hu : ∀ j, r j ≤ 2)
    (hg : Ideal.ofBits .f32 0x3456BF95#32 < s (f ⟨499, by omega⟩) - s (f ⟨500, by omega⟩)) (j : Fin 5000) :
    (bisect s 24).1 < s j ↔ ∃ q : Fin 500, f ⟨q.val, by omega⟩ = j := by
  classical
  have hinj : Function.Injective fun q : Fin 500 => f ⟨q.val, by omega⟩ := by
    intro a b hab
    have := hf.1 hab
    exact Fin.ext (by simpa using this)
  have hse : s = fun j => (r j : EReal) := funext hs
  have hanti : ∀ a b : Fin 5000, a ≤ b → r (f b) ≤ r (f a) := by
    intro a b hab
    rcases hab.lt_or_eq with h | rfl
    · have := ha _ _ h
      rw [hs, hs] at this
      exact_mod_cast this
    · exact le_rfl
  have hgr : 14073749 / 2 ^ 46 < r (f ⟨499, by omega⟩) - r (f ⟨500, by omega⟩) := by
    rw [gapBits, hs, hs, ← EReal.coe_sub] at hg
    exact_mod_cast hg
  have key := bisect_select r hl hu (Finset.univ.map ⟨_, hinj⟩) (by rw [Finset.card_map, Finset.card_univ, Fintype.card_fin]) (by
    intro a ha b hb
    obtain ⟨q, _, rfl⟩ := Finset.mem_map.mp ha
    obtain ⟨p, rfl⟩ := hf.2 b
    have hp : 500 ≤ p.val := by
      by_contra hc
      exact hb (Finset.mem_map.mpr ⟨⟨p.val, by omega⟩, Finset.mem_univ _, congrArg f (Fin.eta p _)⟩)
    have e1 := hanti ⟨q.val, by omega⟩ ⟨499, by omega⟩ (Fin.mk_le_mk.mpr (Nat.le_of_lt_succ q.isLt))
    have e2 := hanti ⟨500, by omega⟩ p (Fin.le_def.mpr hp)
    exact lt_of_lt_of_le hgr (sub_le_sub e1 e2)) j
  rw [← hse, ← hs j] at key
  rw [key, Finset.mem_map]
  constructor
  · rintro ⟨q, _, h⟩
    exact ⟨q, h⟩
  · rintro ⟨q, h⟩
    exact ⟨q, Finset.mem_univ _, h⟩

/-- The columns of the first 500 ranks are the ones above the bisection's lower end. -/
theorem select_ranked (s : Fin 5000 → EReal) (r : Fin 5000 → ℝ) (hs : ∀ j, s j = (r j : EReal)) (hl : ∀ j, -1 ≤ r j) (hu : ∀ j, r j ≤ 2)
    (hg : Ideal.ofBits .f32 0x3456BF95#32 < s (ranked s ⟨499, by omega⟩) - s (ranked s ⟨500, by omega⟩)) (j : Fin 5000) :
    (bisect s 24).1 < s j ↔ ∃ q : Fin 500, ranked s ⟨q.val, by omega⟩ = j :=
  select_order s (ranked s) (ranked_bij s) (fun _ _ h => ranked_anti s h) r hs hl hu hg j

variable (X : TX) (T : TT) (C : TC)

/-- The biased similarities are real numbers between minus one and two. -/
theorem biased_real (i : Fin 4096) (j : Fin 5000) : ∃ r : ℝ, biasedR X T C (ix2 i j) = (r : EReal) ∧ -1 ≤ r ∧ r ≤ 2 := by
  rw [biasedR_at]
  obtain ⟨s, hs, ha⟩ := sim_real (fun d => X (ix2 i d)) (fun d => C (ix2 d j))
  have := abs_le.mp ha
  rw [hs]
  rcases bit_cases (BitVec.ofNat 32 (j.val / 5) = T (ix1 i)) with h | h
  · rw [h]
    exact ⟨s + 1, by rw [EReal.coe_add]; rfl, by linarith, by linarith⟩
  · rw [h, add_zero]
    exact ⟨s, rfl, by linarith, by linarith⟩

theorem near_eq (i : Fin 4096) : near X T C i = fun j => biasedR X T C (ix2 i (unpermEquiv j)) := by
  funext j
  rw [biasedR_at]
  unfold near
  rw [← unperm_div]
  rfl

/-- The kernel's logits are the reference's. -/
theorem logits_eq (i : Fin 4096)
    (hg : Ideal.ofBits .f32 0x3456BF95#32
      < biasedR X T C (ix2 i (ranked (fun j => biasedR X T C (ix2 i j)) ⟨499, by omega⟩))
        - biasedR X T C (ix2 i (ranked (fun j => biasedR X T C (ix2 i j)) ⟨500, by omega⟩))) (c : Fin 1000) :
    logitsK X T C i c = logitsR X T C (ix2 i c) := by
  choose r hr hl hu using biased_real X T C i
  have hsel := select_ranked (fun j => biasedR X T C (ix2 i j)) r hr hl hu hg
  unfold logitsK logitsR
  rw [pooled_at]
  simp only [topMask_at, sims_at, hot5000_at, lab_at]
  rw [pool_eq fun j => bit (∃ q : Fin 500, ranked (fun j => biasedR X T C (ix2 i j)) ⟨q.val, by omega⟩ = j)
    * sim (fun d => X (ix2 i d)) (fun d => C (ix2 d j))]
  refine congrArg (fun g => Spec.pool g c) (funext fun j => ?_)
  rw [near_eq, bisect_perm (fun j => biasedR X T C (ix2 i j)) unpermEquiv]
  exact congrArg (· * _) (bit_congr (hsel (unperm j)))

theorem pool_real {g : Fin 5000 → EReal} (h : ∀ j, IsR (g j)) (c : Fin 1000) : IsR (Spec.pool g c) :=
  ((((h _).add (h _)).add (h _)).add (h _)).add (h _)

theorem logitsK_real (i : Fin 4096) (c : Fin 1000) : IsR (logitsK X T C i c) :=
  pool_real (fun j => (IsR.bit _).mul (isR_sim _ _)) c

/-- The centers' logits, as the kernel sums them. -/
theorem logitsC_eq (i : Fin 5000) (c : Fin 1000) :
    logitsC C (ix2 i c) = Spec.pool (fun k => sim (col C i) (col C (unperm k))) c := by
  rw [logitsC_at, pool_eq fun j => sim (fun d => C (ix2 d i)) (fun d => C (ix2 d j))]
  rfl

theorem logitsC_real (i : Fin 5000) (c : Fin 1000) : IsR (logitsC C (ix2 i c)) := by
  rw [logitsC_eq]
  exact pool_real (fun j => isR_sim _ _) c

/-- The loss of a column of the centers. -/
def ownLoss (i : Fin 5000) : EReal :=
  lossK (scores (fun c => logitsC C (ix2 i c)) (lab (ix1 i))) (lab (ix1 i))

theorem colLoss_eq (j : Fin 5000) : colLoss C j = ownLoss C (unpermEquiv j) := by
  unfold colLoss ownLoss
  rw [lab_at, show (unpermEquiv j).val / 5 = j.val % 1000 from unperm_div j]
  simp only [logitsC_eq]
  rfl

/-- The two losses are equal when every target names a class and no row has a near tie at the selection's boundary. -/
theorem loss_eq (ht : ∀ i, ∃ t : Fin 1000, T (ix1 i) = BitVec.ofNat 32 t.val)
    (hg : ∀ i : Fin 4096, Ideal.ofBits .f32 0x3456BF95#32
      < biasedR X T C (ix2 i (ranked (fun j => biasedR X T C (ix2 i j)) ⟨499, by omega⟩))
        - biasedR X T C (ix2 i (ranked (fun j => biasedR X T C (ix2 i j)) ⟨500, by omega⟩))) :
    (fun _ => Ideal.div (∑ i, rowLoss X T C i) (Ideal.ofBits .f32 0x45800000#32)
        + Ideal.ofBits .f32 0x3CF5C28F#32 * Ideal.div (∑ j, colLoss C j) (Ideal.ofBits .f32 0x459C4000#32))
      = total (loss4096 (logitsR X T C) T) (loss5000 (logitsC C) lab) := by
  have hL : ∀ i c, logitsK X T C i c = logitsR X T C (ix2 i c) := fun i c => logits_eq X T C i (hg i) c
  choose t ht using ht
  funext z
  have hz : z = ix0 := funext fun a => a.elim0
  rw [hz, total_at, loss4096_at _ _ t ht fun i c => by rw [← hL]; exact logitsK_real X T C i c,
    loss5000_at _ _ (fun i => ⟨i.val / 5, by omega⟩) (fun i => lab_at i) fun i c => logitsC_real C i c]
  have e1 : ∀ i, rowLoss X T C i = lossK (scores (fun c => logitsR X T C (ix2 i c)) (T (ix1 i))) (T (ix1 i)) := by
    intro i
    unfold rowLoss
    rw [show logitsK X T C i = fun c => logitsR X T C (ix2 i c) from funext (hL i)]
  have e2 : ∑ j, colLoss C j = ∑ i, ownLoss C i := by
    simp only [colLoss_eq]
    exact Equiv.sum_comp unpermEquiv (ownLoss C)
  rw [e2]
  simp only [e1]
  rfl

/-- The five columns of a class, in the order of the arguments and in the kernel's order. -/
theorem pool_five (h : Fin 5000 → EReal) (c : Fin 1000) :
    ∑ k : Fin 5, h ⟨k.val + 5 * c.val, by omega⟩ = Spec.pool (fun j => h (unperm j)) c := by
  rw [Fin.sum_univ_five]
  unfold Spec.pool
  have k : ∀ (q : Fin 5) (p : Fin 5000), p.val = q.val * 1000 + c.val → h ⟨q.val + 5 * c.val, by omega⟩ = h (unperm p) := by
    intro q p hp
    refine congrArg h (Fin.ext ?_)
    unfold unperm
    dsimp only
    omega
  rw [k 0 ⟨c.val, by omega⟩ (by simp), k 1 ⟨1000 + c.val, by omega⟩ (by simp), k 2 ⟨2000 + c.val, by omega⟩ (by simp),
    k 3 ⟨3000 + c.val, by omega⟩ (by simp), k 4 ⟨4000 + c.val, by omega⟩ (by simp)]

/-- The logits the precondition speaks of are the reference's. -/
theorem logitsS_eq (i : Fin 4096) (c : Fin 1000) : logitsS X T C (ix2 i c) = logitsR X T C (ix2 i c) := by
  rw [logitsS_at, pool_five fun j => topMask (biasedR X T C) (ix2 i j) * Cert.ReferenceIdeal.Loss.sims X C (ix2 i j)]
  unfold logitsR
  rw [pooled_at]
  simp only [hot5000_at, lab_at]
  rw [pool_eq fun j => topMask (biasedR X T C) (ix2 i j) * Cert.ReferenceIdeal.Loss.sims X C (ix2 i j)]

/-- The two shares are equal when, moreover, no other class has the target's score. -/
theorem share_eq (ht : ∀ i, ∃ t : Fin 1000, T (ix1 i) = BitVec.ofNat 32 t.val)
    (hg : ∀ i : Fin 4096, Ideal.ofBits .f32 0x3456BF95#32
      < biasedR X T C (ix2 i (ranked (fun j => biasedR X T C (ix2 i j)) ⟨499, by omega⟩))
        - biasedR X T C (ix2 i (ranked (fun j => biasedR X T C (ix2 i j)) ⟨500, by omega⟩)))
    (hu : ∀ (i : Fin 4096) (t : Fin 1000), T (ix1 i) = BitVec.ofNat 32 t.val → ∀ c, c ≠ t →
      scores (fun c => logitsS X T C (ix2 i c)) (T (ix1 i)) c ≠ scores (fun c => logitsS X T C (ix2 i c)) (T (ix1 i)) t) :
    (fun _ => Ideal.div (∑ i, rowWins X T C i) (Ideal.ofBits .f32 0x45800000#32) * Ideal.ofBits .f32 0x42C80000#32)
      = hits (firstCol (outs (logitsR X T C) T)) T := by
  funext z
  have hz : z = ix0 := funext fun a => a.elim0
  rw [hz, hits_at]
  refine congrArg (fun a => Ideal.div a _ * _) (Finset.sum_congr rfl fun i _ => ?_)
  obtain ⟨t, h⟩ := ht i
  have hu := hu i t h
  rw [show (fun c => logitsS X T C (ix2 i c)) = fun c => logitsR X T C (ix2 i c) from funext (logitsS_eq X T C i)] at hu
  rw [firstCol_at]
  simp only [outs_at]
  unfold rowWins
  rw [show logitsK X T C i = fun c => logitsR X T C (ix2 i c) from funext (logits_eq X T C i (hg i))]
  rw [h] at hu ⊢
  exact (first_wins _ t hu).symm

end Cert.Equal
-- ==== Proof.ErrorRate.lean ====
/- The kernel's equal error rate and the reference's are the same function of the arguments. -/
module

public import proofs.«01_k».proof.Proof.REer
public import proofs.«01_k».proof.Proof.Equal

@[expose] public section

set_option maxRecDepth 16384

noncomputable section

open Idealize.ShloMosaic Idealize.ShloMosaic.TcCoe Idealize.ShloMosaic.Pointwise
open Cert.Spec

namespace Cert.Equal

open Cert.Rank Cert.Meet Cert.ReferenceIdeal.Eer
open Cert.ReferenceIdeal.Rows (hot4096 hot4096_at)
open Cert.ReferenceIdeal.Share (outs outs_at sum_pick)
open Cert.KernelIdeal.Loss (logitsK rowPos)
open Cert.ReferenceIdeal.Loss (logitsR biasedR)
open Cert.ReferenceIdeal.Mask (ranked)
open Cert.Pre_separated (logitsS)

/-! ## The printed numbers -/

theorem word_4096 : Ideal.ofBits .f32 0x45800000#32 = ((4096 : ℝ) : EReal) := by
  rw [ofBits_pos (b := 0x45800000#32) 139 0 (by decide) (by decide) (by decide) (by decide) (by decide)]
  norm_num [zpow_neg]
theorem word_999 : Ideal.ofBits .f32 0x4479C000#32 = ((999 : ℝ) : EReal) := by
  rw [ofBits_pos (b := 0x4479C000#32) 136 7979008 (by decide) (by decide) (by decide) (by decide) (by decide)]
  norm_num [zpow_neg]
theorem word_all : Ideal.ofBits .f32 0x4A7A0000#32 = ((4096000 : ℝ) : EReal) := by
  rw [ofBits_pos (b := 0x4A7A0000#32) 148 7995392 (by decide) (by decide) (by decide) (by decide) (by decide)]
  norm_num [zpow_neg]
theorem word_two : Ideal.ofBits .f32 0x40000000#32 = ((2 : ℝ) : EReal) := by
  rw [ofBits_pos (b := 0x40000000#32) 128 0 (by decide) (by decide) (by decide) (by decide) (by decide)]
  norm_num [zpow_neg]

theorem mean_same (a : ℝ) : (a + a) / 2 = a := by ring

/-! ## Indicators -/

theorem bit_not (p : Prop) [Decidable p] : 1 - bit p = bit (¬ p) := by
  unfold bit
  by_cases h : p
  · rw [if_pos h, if_neg (not_not.mpr h)]
    exact EReal.sub_self (by decide) (by decide)
  · rw [if_neg h, if_pos h, sub_zero]

theorem bit_and (p q : Prop) [Decidable p] [Decidable q] : bit p * bit q = bit (p ∧ q) := by
  unfold bit
  by_cases h : p
  · simp [h]
  · simp [h]

/-- A sum of indicators over a part is a count. -/
theorem sum_bit_part {N : ℕ} (q p : Fin N → Prop) [DecidablePred q] [DecidablePred p] :
    ∑ i ∈ Finset.univ.filter q, bit (p i) = (((Finset.univ.filter fun i => q i ∧ p i).card : ℝ) : EReal) := by
  rw [Finset.sum_filter, ← Rank.sum_bit]
  refine Finset.sum_congr rfl fun i _ => ?_
  unfold bit
  by_cases h : q i
  · simp [h]
  · simp [h]

theorem class_word (c t : Fin 1000) : BitVec.ofNat 32 c.val = BitVec.ofNat 32 t.val ↔ c = t := by
  constructor
  · intro h
    have := congrArg BitVec.toNat h
    simp only [BitVec.toNat_ofNat] at this
    exact Fin.ext (by omega)
  · rintro rfl
    rfl

/-- A score away from the label is not negative. -/
theorem scores_nonneg {n : ℕ} (L : Fin n → EReal) (w : BitVec 32) (c : Fin n) (h : BitVec.ofNat 32 c.val ≠ w) : 0 ≤ scores L w c := by
  unfold scores arc
  have hb : bit (BitVec.ofNat 32 c.val = w) = 0 := by
    unfold bit
    rw [if_neg h]
  rw [hb, zero_mul, zero_add, sub_zero, one_mul]
  have hd : 0 < small + ∑ x, expd (L x) := add_pos_of_pos_of_nonneg small_pos (Finset.sum_nonneg fun x _ => expd_nonneg _)
  refine mul_nonneg ?_ ?_
  · unfold prob Ideal.div
    rw [if_neg hd.ne']
    exact mul_nonneg (expd_nonneg _) (EReal.inv_nonneg_of_nonneg hd.le)
  · rw [show scale = _ from ofBits_pos (b := 0x41700000#32) 130 7340032 (by decide) (by decide) (by decide) (by decide) (by decide)]
    exact EReal.coe_nonneg.mpr (by positivity)

/-! ## The reference's rate -/

theorem cast_4096 (n : ℕ) (h : n = 4096) : (((n : ℕ) : ℝ) : EReal) = ((4096 : ℝ) : EReal) := by
  subst h
  rw [Nat.cast_ofNat]

theorem count_own_sum (t : Fin 4096 → Fin 1000) : ∑ k, bit (col k = t (row k)) = ((4096 : ℝ) : EReal) := by
  have h := Rank.sum_bit fun k => col k = t (row k)
  exact h.trans (cast_4096 _ (count_own t))

/-- The reference's rate is one minus the share of the rows whose target's score is positive. -/
theorem eer_value (o : FVec Ideal ⟨2, ![4096, 1000]⟩ .f32) (T : TT) (t : Fin 4096 → Fin 1000)
    (ht : ∀ i, T (ix1 i) = BitVec.ofNat 32 (t i).val) (h0 : ∀ i, o (ix2 i (t i)) ≠ 0) (hn : ∀ i c, c ≠ t i → 0 ≤ o (ix2 i c))
    (hc : (Finset.univ.filter fun k => ¬ col k = t (row k) ∧ 0 < o (ix2 (row k) (col k))).card
      ≤ 999 * (4096 - (Finset.univ.filter fun i => 0 < o (ix2 i (t i))).card)) :
    eer (taken (flat (hot4096 T)) (places (flat o))) ix0
      = ((1 - ((Finset.univ.filter fun i => 0 < o (ix2 i (t i))).card : ℝ) / 4096 : ℝ) : EReal) := by
  obtain ⟨f, hF⟩ : ∃ f : Fin 4096000 → Fin 4096000, f = rising fun k => -o (ix2 (row k) (col k)) := ⟨_, rfl⟩
  have hf : Function.Bijective f := hF ▸ rising_bij _
  have ha : ∀ i j, i < j → o (ix2 (row (f j)) (col (f j))) ≤ o (ix2 (row (f i)) (col (f i))) := by
    intro i j h
    rw [hF]
    exact EReal.neg_le_neg_iff.mp (rising_le (fun k => -o (ix2 (row k) (col k))) i j h)
  generalize hB : taken (flat (hot4096 T)) (places (flat o)) = b
  have hb : ∀ j, b (ix1 j) = bit (col (f j) = t (row (f j))) := by
    intro j
    rw [← hB, labels_at, ← hF, hot4096_at, ht]
    exact bit_congr (class_word _ _)
  have hcount : count b ix0 = ((4096 : ℝ) : EReal) := by
    rw [count_at, Finset.sum_congr rfl fun j _ => hb j]
    exact (hf.sum_comp fun k => bit (col k = t (row k))).trans (count_own_sum t)
  have hup : ∀ j, upto b (ix1 j) = ((seen (fun k => col k = t (row k)) f j : ℝ) : EReal) := by
    intro j
    rw [upto_at, Finset.sum_congr rfl fun i _ => hb i, sum_bit_part]
    rfl
  have hfl : ∀ j, flip b (ix1 j) = bit (¬ col (f j) = t (row (f j))) := by
    intro j
    rw [flip_at, hb, bit_not]
  have hup' : ∀ j, upto (flip b) (ix1 j) = ((seen (fun k => ¬ col k = t (row k)) f j : ℝ) : EReal) := by
    intro j
    rw [upto_at, Finset.sum_congr rfl fun i _ => hfl i, sum_bit_part]
    rfl
  have hu : ∀ j, flip (rate (upto b) (count b)) (ix1 j) = ((1 - (seen (fun k => col k = t (row k)) f j : ℝ) / 4096 : ℝ) : EReal) := by
    intro j
    rw [flip_at, rate_at, hup, hcount, div_coe (by norm_num), EReal.coe_sub]
    rfl
  have hv : ∀ j, rate (upto (flip b)) (others (count b)) (ix1 j) = (((seen (fun k => ¬ col k = t (row k)) f j : ℝ) / 4091904 : ℝ) : EReal) := by
    intro j
    rw [rate_at, hup', others_at, hcount, word_all, ← EReal.coe_sub, show (4096000 : ℝ) - 4096 = 4091904 by norm_num, div_coe (by norm_num)]
  obtain ⟨q, hq, hm⟩ := middle_at (flip (rate (upto b) (count b))) (rate (upto (flip b)) (others (count b)))
  have hnear : ∀ j, nearness (flip (rate (upto b) (count b))) (rate (upto (flip b)) (others (count b))) (ix1 j)
      = ((-|1 - (seen (fun k => col k = t (row k)) f j : ℝ) / 4096 - (seen (fun k => ¬ col k = t (row k)) f j : ℝ) / 4091904| : ℝ) : EReal) := by
    intro j
    rw [nearness_at, hu, hv, ← EReal.coe_sub, ← EReal.coe_neg, ← EReal.coe_strictMono.monotone.map_max, ← EReal.coe_neg]
    rfl
  have hq' : ∀ k, |1 - (seen (fun k => col k = t (row k)) f q : ℝ) / 4096 - (seen (fun k => ¬ col k = t (row k)) f q : ℝ) / 4091904|
      ≤ |1 - (seen (fun k => col k = t (row k)) f k : ℝ) / 4096 - (seen (fun k => ¬ col k = t (row k)) f k : ℝ) / 4091904| := by
    intro k
    have := hq k
    rw [hnear, hnear, EReal.coe_le_coe_iff] at this
    exact neg_le_neg_iff.mp this
  obtain ⟨m1, m2⟩ := meet (fun i c => o (ix2 i c)) t f hf ha h0 hn hc q hq'
  unfold eer
  rw [hm, hu, hv, m1, m2, word_two, ← EReal.coe_add, div_coe (by norm_num), mean_same]

variable (X : TX) (T : TT) (C : TC)

/-- The two rates are equal when, moreover, no target's score is zero and the other positive scores are not too many. -/
theorem rate_eq (ht : ∀ i, ∃ t : Fin 1000, T (ix1 i) = BitVec.ofNat 32 t.val)
    (hg : ∀ i : Fin 4096, Ideal.ofBits .f32 0x3456BF95#32
      < biasedR X T C (ix2 i (ranked (fun j => biasedR X T C (ix2 i j)) ⟨499, by omega⟩))
        - biasedR X T C (ix2 i (ranked (fun j => biasedR X T C (ix2 i j)) ⟨500, by omega⟩)))
    (h0 : ∀ (i : Fin 4096) (t : Fin 1000), T (ix1 i) = BitVec.ofNat 32 t.val → scores (fun c => logitsS X T C (ix2 i c)) (T (ix1 i)) t ≠ 0)
    (hc : ∀ t : Fin 4096 → Fin 1000, (∀ i, T (ix1 i) = BitVec.ofNat 32 (t i).val) →
      ∑ i : Fin 4096, ∑ c : Fin 1000, (1 - bit (BitVec.ofNat 32 c.val = T (ix1 i))) * bit (0 < scores (fun c => logitsS X T C (ix2 i c)) (T (ix1 i)) c)
        ≤ Ideal.ofBits .f32 0x4479C000#32 * (Ideal.ofBits .f32 0x45800000#32
          - ∑ i : Fin 4096, bit (0 < scores (fun c => logitsS X T C (ix2 i c)) (T (ix1 i)) (t i)))) :
    (fun _ => 1 - Ideal.div (∑ i, rowPos X T C i) (Ideal.ofBits .f32 0x45800000#32))
      = eer (taken (flat (hot4096 T)) (places (flat (outs (logitsR X T C) T)))) := by
  choose t ht' using ht
  have hS : ∀ i, (fun c => logitsS X T C (ix2 i c)) = fun c => logitsR X T C (ix2 i c) := fun i => funext (logitsS_eq X T C i)
  have hK : ∀ i, logitsK X T C i = fun c => logitsR X T C (ix2 i c) := fun i => funext (logits_eq X T C i (hg i))
  have hc := hc t ht'
  simp only [hS] at h0 hc
  have ho : ∀ i c, outs (logitsR X T C) T (ix2 i c) = scores (fun c => logitsR X T C (ix2 i c)) (T (ix1 i)) c := fun i c => outs_at _ _ i c
  generalize hO : outs (logitsR X T C) T = o at ho ⊢
  simp only [← ho] at h0 hc
  have hsum : ∑ i : Fin 4096, bit (0 < o (ix2 i (t i))) = (((Finset.univ.filter fun i => 0 < o (ix2 i (t i))).card : ℝ) : EReal) := Rank.sum_bit _
  have hle : (Finset.univ.filter fun i => 0 < o (ix2 i (t i))).card ≤ 4096 := by
    have := Finset.card_le_univ (Finset.univ.filter fun i => 0 < o (ix2 i (t i)))
    rwa [Fintype.card_fin] at this
  have hdbl : ∑ i : Fin 4096, ∑ c : Fin 1000, (1 - bit (BitVec.ofNat 32 c.val = T (ix1 i))) * bit (0 < o (ix2 i c))
      = (((Finset.univ.filter fun k => ¬ col k = t (row k) ∧ 0 < o (ix2 (row k) (col k))).card : ℝ) : EReal) := by
    rw [← Rank.sum_bit, sum_places fun i c => bit (¬ c = t i ∧ 0 < o (ix2 i c))]
    refine Finset.sum_congr rfl fun i _ => Finset.sum_congr rfl fun c _ => ?_
    rw [bit_not, bit_and, ht' i]
    exact bit_congr (and_congr_left fun _ => not_congr (class_word _ _))
  rw [hdbl, hsum, word_999, word_4096, ← EReal.coe_sub, ← EReal.coe_mul, EReal.coe_le_coe_iff] at hc
  have hnat : (Finset.univ.filter fun k => ¬ col k = t (row k) ∧ 0 < o (ix2 (row k) (col k))).card
      ≤ 999 * (4096 - (Finset.univ.filter fun i => 0 < o (ix2 i (t i))).card) := by
    have h : (((Finset.univ.filter fun k => ¬ col k = t (row k) ∧ 0 < o (ix2 (row k) (col k))).card : ℕ) : ℝ)
        ≤ ((999 * (4096 - (Finset.univ.filter fun i => 0 < o (ix2 i (t i))).card) : ℕ) : ℝ) := by
      rw [Nat.cast_mul, Nat.cast_sub hle]
      exact_mod_cast hc
    exact_mod_cast h
  funext z
  rw [show z = ix0 from funext fun a => a.elim0,
    eer_value o T t ht' (fun i => h0 i (t i) (ht' i)) (fun i c hct => by
      rw [ho]
      exact scores_nonneg _ _ _ fun he => hct ((class_word c (t i)).mp (he.trans (ht' i)))) hnat]
  have hrow : ∀ i, rowPos X T C i = bit (0 < o (ix2 i (t i))) := by
    intro i
    unfold rowPos pos
    rw [hK, ho, ht' i, sum_pick]
  rw [Finset.sum_congr rfl fun i _ => hrow i, hsum, word_4096, div_coe (by norm_num), EReal.coe_sub]
  rfl

end Cert.Equal
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KRun
public import proofs.«01_k».proof.Proof.ErrorRate
public import Idealize.ShloMosaic.Adequacy
public import Idealize.ShloMosaic.Init

@[expose] public section

noncomputable section

namespace Cert.Proof

open Idealize.ShloMosaic Idealize.SL.Sem Idealize.ShloMosaic.StableHlo

/-- The reference runs, leaves its arguments as launched, and ends with every counter at zero. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run (Cert.ReferenceIdeal.defs (F := Ideal)) _ _).mono
    (fun r h => ⟨fun c => (h c).2.2.2, sem_eq_zero_of_no_sems (by decide) r.2⟩) (Cert.ReferenceIdeal.Eer.run_all m g)

/-- The two programs compute the same loss, the same share of hits and the same equal error rate of the same arguments. -/
theorem results_agree : Cert.algebraic_KernelIdeal_ReferenceIdeal_pre_separated (hKernelIdeal := Cert.KernelIdeal.Gen.facts)
    (hReferenceIdeal := Cert.ReferenceIdeal.Gen.facts) (hPre_separated := Cert.Pre_separated.facts) := by
  intro m g m' g' hpre hag
  refine ⟨fun c => Cert.KernelIdeal.Gen.W4 m g c (Proc.devRef .tc Cert.KernelIdeal.main_v14),
    fun c => Cert.KernelIdeal.Gen.W4 m g c (Proc.devRef .tc Cert.KernelIdeal.main_v18),
    fun c => Cert.KernelIdeal.Gen.W4 m g c (Proc.devRef .tc Cert.KernelIdeal.main_v22), Cert.KernelIdeal.Value.run_W4 m g, ?_⟩
  refine (θ_run (Cert.ReferenceIdeal.defs (F := Ideal)) _ _).mono
    (fun r h c => ⟨(h c).1.trans ?_, (h c).2.1.trans ?_, (h c).2.2.1.trans ?_, (h c).2.2.2⟩) (Cert.ReferenceIdeal.Eer.run_all m' g')
  all_goals
    have e0 : Cert.ReferenceIdeal.Loss.inX (launchContents m' c) = Cert.KernelIdeal.Loss.aX m c := (hag c).1
    have e1 : Cert.ReferenceIdeal.Loss.inT (launchContents m' c) = Cert.KernelIdeal.Loss.aT m c := (hag c).2.1
    have e2 : Cert.ReferenceIdeal.Loss.inC (launchContents m' c) = Cert.KernelIdeal.Loss.aC m c := (hag c).2.2
    have hp : Cert.Pre_separated.fn (F := Ideal) (Cert.KernelIdeal.Loss.aX m c) (Cert.KernelIdeal.Loss.aT m c) (Cert.KernelIdeal.Loss.aC m c)
        = fun _ => 1#1 := hpre c
    rw [e0, e1, e2]
  · refine Eq.trans ?_ (Cert.KernelIdeal.Loss.result_at m g c).symm
    exact (Cert.Equal.loss_eq _ _ _ (Cert.Pre_separated.target_class _ _ _ hp) (Cert.Pre_separated.gap _ _ _ hp)).symm
  · refine Eq.trans ?_ (Cert.KernelIdeal.Loss.second_at m g c).symm
    exact (Cert.Equal.share_eq _ _ _ (Cert.Pre_separated.target_class _ _ _ hp) (Cert.Pre_separated.gap _ _ _ hp)
      (Cert.Pre_separated.untied _ _ _ hp)).symm
  · refine Eq.trans ?_ (Cert.KernelIdeal.Loss.third_at m g c).symm
    exact (Cert.Equal.rate_eq _ _ _ (Cert.Pre_separated.target_class _ _ _ hp) (Cert.Pre_separated.gap _ _ _ hp)
      (Cert.Pre_separated.own_ne _ _ _ hp) (Cert.Pre_separated.crossing_le _ _ _ hp)).symm

theorem claim : Cert.Claim :=
  ⟨Cert.Kernel.Gen.facts, Cert.KernelIdeal.Gen.facts, Cert.ReferenceIdeal.Gen.facts, Cert.Pre_separated.facts,
    fun m g _ => Cert.Kernel.Gen.frame m g, fun m g _ => Cert.KernelIdeal.Gen.frame m g, fun m g _ => Cert.KernelIdeal.Gen.frame m g,
    fun m g _ => frame_reference m g, fun m g _ => frame_reference m g, trivial, results_agree⟩

end Cert.Proof

end
